-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v374) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x6x128x128 : Shape := ⟨4, ![16, 6, 128, 128]⟩
abbrev S16x2x128x128 : Shape := ⟨4, ![16, 2, 128, 128]⟩
abbrev S16x4x128x128 : Shape := ⟨4, ![16, 4, 128, 128]⟩
abbrev S16x1x128x128 : Shape := ⟨4, ![16, 1, 128, 128]⟩
abbrev S16x128x128 : Shape := ⟨3, ![16, 128, 128]⟩
abbrev S16x8x128 : Shape := ⟨3, ![16, 8, 128]⟩
abbrev S1x4x128x128 : Shape := ⟨4, ![1, 4, 128, 128]⟩
abbrev S1x128x128 : Shape := ⟨3, ![1, 128, 128]⟩
abbrev S1x8x128 : Shape := ⟨3, ![1, 8, 128]⟩
abbrev S4x128x128 : Shape := ⟨3, ![4, 128, 128]⟩
abbrev S128x128 : Shape := ⟨2, ![128, 128]⟩
abbrev S1 : Shape := ⟨1, ![1]⟩
abbrev S1x1x1 : Shape := ⟨3, ![1, 1, 1]⟩
abbrev S8x128 : Shape := ⟨2, ![8, 128]⟩
abbrev S16x1x1 : Shape := ⟨3, ![16, 1, 1]⟩
abbrev S16 : Shape := ⟨1, ![16]⟩

abbrev nBuf : Space → Nat
  | .hbm => 10
  | .vmem => 8
  | .smem => 0
  | _ => 0

abbrev bufTy : (tb : Table) → Fin (tcTables nBuf tb) → BufTy
  | .hbm, ⟨0, _⟩ => ⟨S16x6x128x128, .f32⟩
  | .hbm, ⟨1, _⟩ => ⟨S16x2x128x128, .i32⟩
  | .hbm, ⟨2, _⟩ => ⟨S16x4x128x128, .f32⟩
  | .hbm, ⟨3, _⟩ => ⟨S16x1x128x128, .i32⟩
  | .hbm, ⟨4, _⟩ => ⟨S16x128x128, .i32⟩
  | .hbm, ⟨5, _⟩ => ⟨S16x1x128x128, .i32⟩
  | .hbm, ⟨6, _⟩ => ⟨S16x128x128, .i32⟩
  | .hbm, ⟨7, _⟩ => ⟨S16x8x128, .f32⟩
  | .hbm, ⟨8, _⟩ => ⟨S16x1x1, .f32⟩
  | .hbm, ⟨9, _⟩ => ⟨S16, .f32⟩
  | .local _ .vmem, ⟨0, _⟩ => ⟨S1x4x128x128, .f32⟩
  | .local _ .vmem, ⟨1, _⟩ => ⟨S1x4x128x128, .f32⟩
  | .local _ .vmem, ⟨2, _⟩ => ⟨S1x128x128, .i32⟩
  | .local _ .vmem, ⟨3, _⟩ => ⟨S1x128x128, .i32⟩
  | .local _ .vmem, ⟨4, _⟩ => ⟨S1x128x128, .i32⟩
  | .local _ .vmem, ⟨5, _⟩ => ⟨S1x128x128, .i32⟩
  | .local _ .vmem, ⟨6, _⟩ => ⟨S1x8x128, .f32⟩
  | .local _ .vmem, ⟨7, _⟩ => ⟨S1x8x128, .f32⟩
  | _, _ => ⟨S16x6x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x6x128x128 : Shape := ⟨4, ![16, 6, 128, 128]⟩
abbrev S16x2x128x128 : Shape := ⟨4, ![16, 2, 128, 128]⟩
abbrev S16x4x128x128 : Shape := ⟨4, ![16, 4, 128, 128]⟩
abbrev S16x4x16384 : Shape := ⟨3, ![16, 4, 16384]⟩
abbrev S16x1x128x128 : Shape := ⟨4, ![16, 1, 128, 128]⟩
abbrev S16x128x128 : Shape := ⟨3, ![16, 128, 128]⟩
abbrev S16x16384 : Shape := ⟨2, ![16, 16384]⟩
abbrev S_ : Shape := ⟨0, ![]⟩
abbrev S16 : Shape := ⟨1, ![16]⟩
abbrev S16x1x16384 : Shape := ⟨3, ![16, 1, 16384]⟩
abbrev S16x4 : Shape := ⟨2, ![16, 4]⟩
abbrev S16x1 : Shape := ⟨2, ![16, 1]⟩
abbrev S16x4x1 : Shape := ⟨3, ![16, 4, 1]⟩
abbrev S16384 : Shape := ⟨1, ![16384]⟩
abbrev S1x16 : Shape := ⟨2, ![1, 16]⟩
abbrev S7x16 : Shape := ⟨2, ![7, 16]⟩

abbrev nBuf : Space → Nat
  | .hbm => 573
  | .vmem => 0
  | .smem => 0
  | _ => 0

abbrev hbmTy0_0 (i : Nat) : BufTy := match i % 128 with
  | 0 => ⟨S16x6x128x128, .f32⟩
  | 1 => ⟨S16x2x128x128, .i32⟩
  | 2 => ⟨S16x4x128x128, .f32⟩
  | 3 => ⟨S16x4x16384, .f32⟩
  | 4 => ⟨S16x1x128x128, .i32⟩
  | 5 => ⟨S16x128x128, .i32⟩
  | 6 => ⟨S16x16384, .i32⟩
  | 7 => ⟨S16x1x128x128, .i32⟩
  | 8 => ⟨S16x128x128, .i32⟩
  | 9 => ⟨S16x16384, .i32⟩
  | 10 => ⟨S_, .i32⟩
  | 11 => ⟨S16x16384, .i32⟩
  | 12 => ⟨S16x16384, .i1⟩
  | 13 => ⟨S16x16384, .f32⟩
  | 14 => ⟨S_, .i32⟩
  | 15 => ⟨S16x16384, .i32⟩
  | 16 => ⟨S16x16384, .i1⟩
  | 17 => ⟨S16x16384, .f32⟩
  | 18 => ⟨S_, .f32⟩
  | 19 => ⟨S16, .f32⟩
  | 20 => ⟨S_, .f32⟩
  | 21 => ⟨S16, .f32⟩
  | 22 => ⟨S_, .f32⟩
  | 23 => ⟨S16, .f32⟩
  | 24 => ⟨S16, .i1⟩
  | 25 => ⟨S_, .f32⟩
  | 26 => ⟨S16, .f32⟩
  | 27 => ⟨S16, .i1⟩
  | 28 => ⟨S16, .i1⟩
  | 29 => ⟨S16x1x16384, .f32⟩
  | 30 => ⟨S16x4x16384, .f32⟩
  | 31 => ⟨S16x4x16384, .f32⟩
  | 32 => ⟨S_, .f32⟩
  | 33 => ⟨S16x4, .f32⟩
  | 34 => ⟨S_, .f32⟩
  | 35 => ⟨S16, .f32⟩
  | 36 => ⟨S16, .f32⟩
  | 37 => ⟨S16x1, .f32⟩
  | 38 => ⟨S16x4, .f32⟩
  | 39 => ⟨S16x4, .f32⟩
  | 40 => ⟨S16x4x1, .f32⟩
  | 41 => ⟨S16x4x16384, .f32⟩
  | 42 => ⟨S16x4x16384, .f32⟩
  | 43 => ⟨S16x4x16384, .f32⟩
  | 44 => ⟨S_, .f32⟩
  | 45 => ⟨S16x16384, .f32⟩
  | 46 => ⟨S_, .f32⟩
  | 47 => ⟨S16x16384, .f32⟩
  | 48 => ⟨S16x16384, .i1⟩
  | 49 => ⟨S_, .f32⟩
  | 50 => ⟨S_, .f32⟩
  | 51 => ⟨S16384, .f32⟩
  | 52 => ⟨S16x16384, .f32⟩
  | 53 => ⟨S16x16384, .f32⟩
  | 54 => ⟨S16x16384, .f32⟩
  | 55 => ⟨S_, .f32⟩
  | 56 => ⟨S16x16384, .f32⟩
  | 57 => ⟨S16x16384, .i1⟩
  | 58 => ⟨S_, .f32⟩
  | 59 => ⟨S_, .f32⟩
  | 60 => ⟨S16384, .f32⟩
  | 61 => ⟨S16x16384, .f32⟩
  | 62 => ⟨S16x16384, .f32⟩
  | 63 => ⟨S_, .f32⟩
  | 64 => ⟨S16x16384, .f32⟩
  | 65 => ⟨S16x16384, .f32⟩
  | 66 => ⟨S_, .f32⟩
  | 67 => ⟨S16x16384, .f32⟩
  | 68 => ⟨S16x16384, .f32⟩
  | 69 => ⟨S16x16384, .f32⟩
  | 70 => ⟨S_, .f32⟩
  | 71 => ⟨S16x16384, .f32⟩
  | 72 => ⟨S16x16384, .f32⟩
  | 73 => ⟨S16x16384, .f32⟩
  | 74 => ⟨S16x16384, .f32⟩
  | 75 => ⟨S_, .f32⟩
  | 76 => ⟨S16, .f32⟩
  | 77 => ⟨S_, .f32⟩
  | 78 => ⟨S16, .f32⟩
  | 79 => ⟨S16, .f32⟩
  | 80 => ⟨S16, .f32⟩
  | 81 => ⟨S_, .f32⟩
  | 82 => ⟨S_, .f32⟩
  | 83 => ⟨S16, .f32⟩
  | 84 => ⟨S16, .f32⟩
  | 85 => ⟨S16, .f32⟩
  | 86 => ⟨S_, .i32⟩
  | 87 => ⟨S16x16384, .i32⟩
  | 88 => ⟨S16x16384, .i1⟩
  | 89 => ⟨S16x16384, .f32⟩
  | 90 => ⟨S_, .i32⟩
  | 91 => ⟨S16x16384, .i32⟩
  | 92 => ⟨S16x16384, .i1⟩
  | 93 => ⟨S16x16384, .f32⟩
  | 94 => ⟨S_, .f32⟩
  | 95 => ⟨S16, .f32⟩
  | 96 => ⟨S_, .f32⟩
  | 97 => ⟨S16, .f32⟩
  | 98 => ⟨S_, .f32⟩
  | 99 => ⟨S16, .f32⟩
  | 100 => ⟨S16, .i1⟩
  | 101 => ⟨S_, .f32⟩
  | 102 => ⟨S16, .f32⟩
  | 103 => ⟨S16, .i1⟩
  | 104 => ⟨S16, .i1⟩
  | 105 => ⟨S16x1x16384, .f32⟩
  | 106 => ⟨S16x4x16384, .f32⟩
  | 107 => ⟨S16x4x16384, .f32⟩
  | 108 => ⟨S_, .f32⟩
  | 109 => ⟨S16x4, .f32⟩
  | 110 => ⟨S_, .f32⟩
  | 111 => ⟨S16, .f32⟩
  | 112 => ⟨S16, .f32⟩
  | 113 => ⟨S16x1, .f32⟩
  | 114 => ⟨S16x4, .f32⟩
  | 115 => ⟨S16x4, .f32⟩
  | 116 => ⟨S16x4x1, .f32⟩
  | 117 => ⟨S16x4x16384, .f32⟩
  | 118 => ⟨S16x4x16384, .f32⟩
  | 119 => ⟨S16x4x16384, .f32⟩
  | 120 => ⟨S_, .f32⟩
  | 121 => ⟨S16x16384, .f32⟩
  | 122 => ⟨S_, .f32⟩
  | 123 => ⟨S16x16384, .f32⟩
  | 124 => ⟨S16x16384, .i1⟩
  | 125 => ⟨S_, .f32⟩
  | 126 => ⟨S_, .f32⟩
  | 127 => ⟨S16384, .f32⟩
  | _ => ⟨S16x6x128x128, .f32⟩

abbrev hbmTy0_1 (i : Nat) : BufTy := match i % 128 with
  | 0 => ⟨S16x16384, .f32⟩
  | 1 => ⟨S16x16384, .f32⟩
  | 2 => ⟨S16x16384, .f32⟩
  | 3 => ⟨S_, .f32⟩
  | 4 => ⟨S16x16384, .f32⟩
  | 5 => ⟨S16x16384, .i1⟩
  | 6 => ⟨S_, .f32⟩
  | 7 => ⟨S_, .f32⟩
  | 8 => ⟨S16384, .f32⟩
  | 9 => ⟨S16x16384, .f32⟩
  | 10 => ⟨S16x16384, .f32⟩
  | 11 => ⟨S_, .f32⟩
  | 12 => ⟨S16x16384, .f32⟩
  | 13 => ⟨S16x16384, .f32⟩
  | 14 => ⟨S_, .f32⟩
  | 15 => ⟨S16x16384, .f32⟩
  | 16 => ⟨S16x16384, .f32⟩
  | 17 => ⟨S16x16384, .f32⟩
  | 18 => ⟨S_, .f32⟩
  | 19 => ⟨S16x16384, .f32⟩
  | 20 => ⟨S16x16384, .f32⟩
  | 21 => ⟨S16x16384, .f32⟩
  | 22 => ⟨S16x16384, .f32⟩
  | 23 => ⟨S_, .f32⟩
  | 24 => ⟨S16, .f32⟩
  | 25 => ⟨S_, .f32⟩
  | 26 => ⟨S16, .f32⟩
  | 27 => ⟨S16, .f32⟩
  | 28 => ⟨S16, .f32⟩
  | 29 => ⟨S_, .f32⟩
  | 30 => ⟨S_, .f32⟩
  | 31 => ⟨S16, .f32⟩
  | 32 => ⟨S16, .f32⟩
  | 33 => ⟨S16, .f32⟩
  | 34 => ⟨S_, .i32⟩
  | 35 => ⟨S16x16384, .i32⟩
  | 36 => ⟨S16x16384, .i1⟩
  | 37 => ⟨S16x16384, .f32⟩
  | 38 => ⟨S_, .i32⟩
  | 39 => ⟨S16x16384, .i32⟩
  | 40 => ⟨S16x16384, .i1⟩
  | 41 => ⟨S16x16384, .f32⟩
  | 42 => ⟨S_, .f32⟩
  | 43 => ⟨S16, .f32⟩
  | 44 => ⟨S_, .f32⟩
  | 45 => ⟨S16, .f32⟩
  | 46 => ⟨S_, .f32⟩
  | 47 => ⟨S16, .f32⟩
  | 48 => ⟨S16, .i1⟩
  | 49 => ⟨S_, .f32⟩
  | 50 => ⟨S16, .f32⟩
  | 51 => ⟨S16, .i1⟩
  | 52 => ⟨S16, .i1⟩
  | 53 => ⟨S16x1x16384, .f32⟩
  | 54 => ⟨S16x4x16384, .f32⟩
  | 55 => ⟨S16x4x16384, .f32⟩
  | 56 => ⟨S_, .f32⟩
  | 57 => ⟨S16x4, .f32⟩
  | 58 => ⟨S_, .f32⟩
  | 59 => ⟨S16, .f32⟩
  | 60 => ⟨S16, .f32⟩
  | 61 => ⟨S16x1, .f32⟩
  | 62 => ⟨S16x4, .f32⟩
  | 63 => ⟨S16x4, .f32⟩
  | 64 => ⟨S16x4x1, .f32⟩
  | 65 => ⟨S16x4x16384, .f32⟩
  | 66 => ⟨S16x4x16384, .f32⟩
  | 67 => ⟨S16x4x16384, .f32⟩
  | 68 => ⟨S_, .f32⟩
  | 69 => ⟨S16x16384, .f32⟩
  | 70 => ⟨S_, .f32⟩
  | 71 => ⟨S16x16384, .f32⟩
  | 72 => ⟨S16x16384, .i1⟩
  | 73 => ⟨S_, .f32⟩
  | 74 => ⟨S_, .f32⟩
  | 75 => ⟨S16384, .f32⟩
  | 76 => ⟨S16x16384, .f32⟩
  | 77 => ⟨S16x16384, .f32⟩
  | 78 => ⟨S16x16384, .f32⟩
  | 79 => ⟨S_, .f32⟩
  | 80 => ⟨S16x16384, .f32⟩
  | 81 => ⟨S16x16384, .i1⟩
  | 82 => ⟨S_, .f32⟩
  | 83 => ⟨S_, .f32⟩
  | 84 => ⟨S16384, .f32⟩
  | 85 => ⟨S16x16384, .f32⟩
  | 86 => ⟨S16x16384, .f32⟩
  | 87 => ⟨S_, .f32⟩
  | 88 => ⟨S16x16384, .f32⟩
  | 89 => ⟨S16x16384, .f32⟩
  | 90 => ⟨S_, .f32⟩
  | 91 => ⟨S16x16384, .f32⟩
  | 92 => ⟨S16x16384, .f32⟩
  | 93 => ⟨S16x16384, .f32⟩
  | 94 => ⟨S_, .f32⟩
  | 95 => ⟨S16x16384, .f32⟩
  | 96 => ⟨S16x16384, .f32⟩
  | 97 => ⟨S16x16384, .f32⟩
  | 98 => ⟨S16x16384, .f32⟩
  | 99 => ⟨S_, .f32⟩
  | 100 => ⟨S16, .f32⟩
  | 101 => ⟨S_, .f32⟩
  | 102 => ⟨S16, .f32⟩
  | 103 => ⟨S16, .f32⟩
  | 104 => ⟨S16, .f32⟩
  | 105 => ⟨S_, .f32⟩
  | 106 => ⟨S_, .f32⟩
  | 107 => ⟨S16, .f32⟩
  | 108 => ⟨S16, .f32⟩
  | 109 => ⟨S16, .f32⟩
  | 110 => ⟨S_, .i32⟩
  | 111 => ⟨S16x16384, .i32⟩
  | 112 => ⟨S16x16384, .i1⟩
  | 113 => ⟨S16x16384, .f32⟩
  | 114 => ⟨S_, .i32⟩
  | 115 => ⟨S16x16384, .i32⟩
  | 116 => ⟨S16x16384, .i1⟩
  | 117 => ⟨S16x16384, .f32⟩
  | 118 => ⟨S_, .f32⟩
  | 119 => ⟨S16, .f32⟩
  | 120 => ⟨S_, .f32⟩
  | 121 => ⟨S16, .f32⟩
  | 122 => ⟨S_, .f32⟩
  | 123 => ⟨S16, .f32⟩
  | 124 => ⟨S16, .i1⟩
  | 125 => ⟨S_, .f32⟩
  | 126 => ⟨S16, .f32⟩
  | 127 => ⟨S16, .i1⟩
  | _ => ⟨S16x6x128x128, .f32⟩

abbrev hbmTy0_2 (i : Nat) : BufTy := match i % 128 with
  | 0 => ⟨S16, .i1⟩
  | 1 => ⟨S16x1x16384, .f32⟩
  | 2 => ⟨S16x4x16384, .f32⟩
  | 3 => ⟨S16x4x16384, .f32⟩
  | 4 => ⟨S_, .f32⟩
  | 5 => ⟨S16x4, .f32⟩
  | 6 => ⟨S_, .f32⟩
  | 7 => ⟨S16, .f32⟩
  | 8 => ⟨S16, .f32⟩
  | 9 => ⟨S16x1, .f32⟩
  | 10 => ⟨S16x4, .f32⟩
  | 11 => ⟨S16x4, .f32⟩
  | 12 => ⟨S16x4x1, .f32⟩
  | 13 => ⟨S16x4x16384, .f32⟩
  | 14 => ⟨S16x4x16384, .f32⟩
  | 15 => ⟨S16x4x16384, .f32⟩
  | 16 => ⟨S_, .f32⟩
  | 17 => ⟨S16x16384, .f32⟩
  | 18 => ⟨S_, .f32⟩
  | 19 => ⟨S16x16384, .f32⟩
  | 20 => ⟨S16x16384, .i1⟩
  | 21 => ⟨S_, .f32⟩
  | 22 => ⟨S_, .f32⟩
  | 23 => ⟨S16384, .f32⟩
  | 24 => ⟨S16x16384, .f32⟩
  | 25 => ⟨S16x16384, .f32⟩
  | 26 => ⟨S16x16384, .f32⟩
  | 27 => ⟨S_, .f32⟩
  | 28 => ⟨S16x16384, .f32⟩
  | 29 => ⟨S16x16384, .i1⟩
  | 30 => ⟨S_, .f32⟩
  | 31 => ⟨S_, .f32⟩
  | 32 => ⟨S16384, .f32⟩
  | 33 => ⟨S16x16384, .f32⟩
  | 34 => ⟨S16x16384, .f32⟩
  | 35 => ⟨S_, .f32⟩
  | 36 => ⟨S16x16384, .f32⟩
  | 37 => ⟨S16x16384, .f32⟩
  | 38 => ⟨S_, .f32⟩
  | 39 => ⟨S16x16384, .f32⟩
  | 40 => ⟨S16x16384, .f32⟩
  | 41 => ⟨S16x16384, .f32⟩
  | 42 => ⟨S_, .f32⟩
  | 43 => ⟨S16x16384, .f32⟩
  | 44 => ⟨S16x16384, .f32⟩
  | 45 => ⟨S16x16384, .f32⟩
  | 46 => ⟨S16x16384, .f32⟩
  | 47 => ⟨S_, .f32⟩
  | 48 => ⟨S16, .f32⟩
  | 49 => ⟨S_, .f32⟩
  | 50 => ⟨S16, .f32⟩
  | 51 => ⟨S16, .f32⟩
  | 52 => ⟨S16, .f32⟩
  | 53 => ⟨S_, .f32⟩
  | 54 => ⟨S_, .f32⟩
  | 55 => ⟨S16, .f32⟩
  | 56 => ⟨S16, .f32⟩
  | 57 => ⟨S16, .f32⟩
  | 58 => ⟨S_, .i32⟩
  | 59 => ⟨S16x16384, .i32⟩
  | 60 => ⟨S16x16384, .i1⟩
  | 61 => ⟨S16x16384, .f32⟩
  | 62 => ⟨S_, .i32⟩
  | 63 => ⟨S16x16384, .i32⟩
  | 64 => ⟨S16x16384, .i1⟩
  | 65 => ⟨S16x16384, .f32⟩
  | 66 => ⟨S_, .f32⟩
  | 67 => ⟨S16, .f32⟩
  | 68 => ⟨S_, .f32⟩
  | 69 => ⟨S16, .f32⟩
  | 70 => ⟨S_, .f32⟩
  | 71 => ⟨S16, .f32⟩
  | 72 => ⟨S16, .i1⟩
  | 73 => ⟨S_, .f32⟩
  | 74 => ⟨S16, .f32⟩
  | 75 => ⟨S16, .i1⟩
  | 76 => ⟨S16, .i1⟩
  | 77 => ⟨S16x1x16384, .f32⟩
  | 78 => ⟨S16x4x16384, .f32⟩
  | 79 => ⟨S16x4x16384, .f32⟩
  | 80 => ⟨S_, .f32⟩
  | 81 => ⟨S16x4, .f32⟩
  | 82 => ⟨S_, .f32⟩
  | 83 => ⟨S16, .f32⟩
  | 84 => ⟨S16, .f32⟩
  | 85 => ⟨S16x1, .f32⟩
  | 86 => ⟨S16x4, .f32⟩
  | 87 => ⟨S16x4, .f32⟩
  | 88 => ⟨S16x4x1, .f32⟩
  | 89 => ⟨S16x4x16384, .f32⟩
  | 90 => ⟨S16x4x16384, .f32⟩
  | 91 => ⟨S16x4x16384, .f32⟩
  | 92 => ⟨S_, .f32⟩
  | 93 => ⟨S16x16384, .f32⟩
  | 94 => ⟨S_, .f32⟩
  | 95 => ⟨S16x16384, .f32⟩
  | 96 => ⟨S16x16384, .i1⟩
  | 97 => ⟨S_, .f32⟩
  | 98 => ⟨S_, .f32⟩
  | 99 => ⟨S16384, .f32⟩
  | 100 => ⟨S16x16384, .f32⟩
  | 101 => ⟨S16x16384, .f32⟩
  | 102 => ⟨S16x16384, .f32⟩
  | 103 => ⟨S_, .f32⟩
  | 104 => ⟨S16x16384, .f32⟩
  | 105 => ⟨S16x16384, .i1⟩
  | 106 => ⟨S_, .f32⟩
  | 107 => ⟨S_, .f32⟩
  | 108 => ⟨S16384, .f32⟩
  | 109 => ⟨S16x16384, .f32⟩
  | 110 => ⟨S16x16384, .f32⟩
  | 111 => ⟨S_, .f32⟩
  | 112 => ⟨S16x16384, .f32⟩
  | 113 => ⟨S16x16384, .f32⟩
  | 114 => ⟨S_, .f32⟩
  | 115 => ⟨S16x16384, .f32⟩
  | 116 => ⟨S16x16384, .f32⟩
  | 117 => ⟨S16x16384, .f32⟩
  | 118 => ⟨S_, .f32⟩
  | 119 => ⟨S16x16384, .f32⟩
  | 120 => ⟨S16x16384, .f32⟩
  | 121 => ⟨S16x16384, .f32⟩
  | 122 => ⟨S16x16384, .f32⟩
  | 123 => ⟨S_, .f32⟩
  | 124 => ⟨S16, .f32⟩
  | 125 => ⟨S_, .f32⟩
  | 126 => ⟨S16, .f32⟩
  | 127 => ⟨S16, .f32⟩
  | _ => ⟨S16x6x128x128, .f32⟩

abbrev hbmTy0_3 (i : Nat) : BufTy := match i % 128 with
  | 0 => ⟨S16, .f32⟩
  | 1 => ⟨S_, .f32⟩
  | 2 => ⟨S_, .f32⟩
  | 3 => ⟨S16, .f32⟩
  | 4 => ⟨S16, .f32⟩
  | 5 => ⟨S16, .f32⟩
  | 6 => ⟨S_, .i32⟩
  | 7 => ⟨S16x16384, .i32⟩
  | 8 => ⟨S16x16384, .i1⟩
  | 9 => ⟨S16x16384, .f32⟩
  | 10 => ⟨S_, .i32⟩
  | 11 => ⟨S16x16384, .i32⟩
  | 12 => ⟨S16x16384, .i1⟩
  | 13 => ⟨S16x16384, .f32⟩
  | 14 => ⟨S_, .f32⟩
  | 15 => ⟨S16, .f32⟩
  | 16 => ⟨S_, .f32⟩
  | 17 => ⟨S16, .f32⟩
  | 18 => ⟨S_, .f32⟩
  | 19 => ⟨S16, .f32⟩
  | 20 => ⟨S16, .i1⟩
  | 21 => ⟨S_, .f32⟩
  | 22 => ⟨S16, .f32⟩
  | 23 => ⟨S16, .i1⟩
  | 24 => ⟨S16, .i1⟩
  | 25 => ⟨S16x1x16384, .f32⟩
  | 26 => ⟨S16x4x16384, .f32⟩
  | 27 => ⟨S16x4x16384, .f32⟩
  | 28 => ⟨S_, .f32⟩
  | 29 => ⟨S16x4, .f32⟩
  | 30 => ⟨S_, .f32⟩
  | 31 => ⟨S16, .f32⟩
  | 32 => ⟨S16, .f32⟩
  | 33 => ⟨S16x1, .f32⟩
  | 34 => ⟨S16x4, .f32⟩
  | 35 => ⟨S16x4, .f32⟩
  | 36 => ⟨S16x4x1, .f32⟩
  | 37 => ⟨S16x4x16384, .f32⟩
  | 38 => ⟨S16x4x16384, .f32⟩
  | 39 => ⟨S16x4x16384, .f32⟩
  | 40 => ⟨S_, .f32⟩
  | 41 => ⟨S16x16384, .f32⟩
  | 42 => ⟨S_, .f32⟩
  | 43 => ⟨S16x16384, .f32⟩
  | 44 => ⟨S16x16384, .i1⟩
  | 45 => ⟨S_, .f32⟩
  | 46 => ⟨S_, .f32⟩
  | 47 => ⟨S16384, .f32⟩
  | 48 => ⟨S16x16384, .f32⟩
  | 49 => ⟨S16x16384, .f32⟩
  | 50 => ⟨S16x16384, .f32⟩
  | 51 => ⟨S_, .f32⟩
  | 52 => ⟨S16x16384, .f32⟩
  | 53 => ⟨S16x16384, .i1⟩
  | 54 => ⟨S_, .f32⟩
  | 55 => ⟨S_, .f32⟩
  | 56 => ⟨S16384, .f32⟩
  | 57 => ⟨S16x16384, .f32⟩
  | 58 => ⟨S16x16384, .f32⟩
  | 59 => ⟨S_, .f32⟩
  | 60 => ⟨S16x16384, .f32⟩
  | 61 => ⟨S16x16384, .f32⟩
  | 62 => ⟨S_, .f32⟩
  | 63 => ⟨S16x16384, .f32⟩
  | 64 => ⟨S16x16384, .f32⟩
  | 65 => ⟨S16x16384, .f32⟩
  | 66 => ⟨S_, .f32⟩
  | 67 => ⟨S16x16384, .f32⟩
  | 68 => ⟨S16x16384, .f32⟩
  | 69 => ⟨S16x16384, .f32⟩
  | 70 => ⟨S16x16384, .f32⟩
  | 71 => ⟨S_, .f32⟩
  | 72 => ⟨S16, .f32⟩
  | 73 => ⟨S_, .f32⟩
  | 74 => ⟨S16, .f32⟩
  | 75 => ⟨S16, .f32⟩
  | 76 => ⟨S16, .f32⟩
  | 77 => ⟨S_, .f32⟩
  | 78 => ⟨S_, .f32⟩
  | 79 => ⟨S16, .f32⟩
  | 80 => ⟨S16, .f32⟩
  | 81 => ⟨S16, .f32⟩
  | 82 => ⟨S_, .i32⟩
  | 83 => ⟨S16x16384, .i32⟩
  | 84 => ⟨S16x16384, .i1⟩
  | 85 => ⟨S16x16384, .f32⟩
  | 86 => ⟨S_, .i32⟩
  | 87 => ⟨S16x16384, .i32⟩
  | 88 => ⟨S16x16384, .i1⟩
  | 89 => ⟨S16x16384, .f32⟩
  | 90 => ⟨S_, .f32⟩
  | 91 => ⟨S16, .f32⟩
  | 92 => ⟨S_, .f32⟩
  | 93 => ⟨S16, .f32⟩
  | 94 => ⟨S_, .f32⟩
  | 95 => ⟨S16, .f32⟩
  | 96 => ⟨S16, .i1⟩
  | 97 => ⟨S_, .f32⟩
  | 98 => ⟨S16, .f32⟩
  | 99 => ⟨S16, .i1⟩
  | 100 => ⟨S16, .i1⟩
  | 101 => ⟨S16x1x16384, .f32⟩
  | 102 => ⟨S16x4x16384, .f32⟩
  | 103 => ⟨S16x4x16384, .f32⟩
  | 104 => ⟨S_, .f32⟩
  | 105 => ⟨S16x4, .f32⟩
  | 106 => ⟨S_, .f32⟩
  | 107 => ⟨S16, .f32⟩
  | 108 => ⟨S16, .f32⟩
  | 109 => ⟨S16x1, .f32⟩
  | 110 => ⟨S16x4, .f32⟩
  | 111 => ⟨S16x4, .f32⟩
  | 112 => ⟨S16x4x1, .f32⟩
  | 113 => ⟨S16x4x16384, .f32⟩
  | 114 => ⟨S16x4x16384, .f32⟩
  | 115 => ⟨S16x4x16384, .f32⟩
  | 116 => ⟨S_, .f32⟩
  | 117 => ⟨S16x16384, .f32⟩
  | 118 => ⟨S_, .f32⟩
  | 119 => ⟨S16x16384, .f32⟩
  | 120 => ⟨S16x16384, .i1⟩
  | 121 => ⟨S_, .f32⟩
  | 122 => ⟨S_, .f32⟩
  | 123 => ⟨S16384, .f32⟩
  | 124 => ⟨S16x16384, .f32⟩
  | 125 => ⟨S16x16384, .f32⟩
  | 126 => ⟨S16x16384, .f32⟩
  | 127 => ⟨S_, .f32⟩
  | _ => ⟨S16x6x128x128, .f32⟩

abbrev hbmTy0_4 (i : Nat) : BufTy := match i % 128 with
  | 0 => ⟨S16x16384, .f32⟩
  | 1 => ⟨S16x16384, .i1⟩
  | 2 => ⟨S_, .f32⟩
  | 3 => ⟨S_, .f32⟩
  | 4 => ⟨S16384, .f32⟩
  | 5 => ⟨S16x16384, .f32⟩
  | 6 => ⟨S16x16384, .f32⟩
  | 7 => ⟨S_, .f32⟩
  | 8 => ⟨S16x16384, .f32⟩
  | 9 => ⟨S16x16384, .f32⟩
  | 10 => ⟨S_, .f32⟩
  | 11 => ⟨S16x16384, .f32⟩
  | 12 => ⟨S16x16384, .f32⟩
  | 13 => ⟨S16x16384, .f32⟩
  | 14 => ⟨S_, .f32⟩
  | 15 => ⟨S16x16384, .f32⟩
  | 16 => ⟨S16x16384, .f32⟩
  | 17 => ⟨S16x16384, .f32⟩
  | 18 => ⟨S16x16384, .f32⟩
  | 19 => ⟨S_, .f32⟩
  | 20 => ⟨S16, .f32⟩
  | 21 => ⟨S_, .f32⟩
  | 22 => ⟨S16, .f32⟩
  | 23 => ⟨S16, .f32⟩
  | 24 => ⟨S16, .f32⟩
  | 25 => ⟨S_, .f32⟩
  | 26 => ⟨S_, .f32⟩
  | 27 => ⟨S16, .f32⟩
  | 28 => ⟨S16, .f32⟩
  | 29 => ⟨S16, .f32⟩
  | 30 => ⟨S1x16, .f32⟩
  | 31 => ⟨S1x16, .f32⟩
  | 32 => ⟨S1x16, .f32⟩
  | 33 => ⟨S1x16, .f32⟩
  | 34 => ⟨S1x16, .f32⟩
  | 35 => ⟨S1x16, .f32⟩
  | 36 => ⟨S1x16, .f32⟩
  | 37 => ⟨S7x16, .f32⟩
  | 38 => ⟨S1x16, .f32⟩
  | 39 => ⟨S1x16, .f32⟩
  | 40 => ⟨S1x16, .f32⟩
  | 41 => ⟨S1x16, .f32⟩
  | 42 => ⟨S1x16, .f32⟩
  | 43 => ⟨S1x16, .f32⟩
  | 44 => ⟨S1x16, .f32⟩
  | 45 => ⟨S7x16, .f32⟩
  | 46 => ⟨S_, .f32⟩
  | 47 => ⟨S16, .f32⟩
  | 48 => ⟨S_, .f32⟩
  | 49 => ⟨S16, .f32⟩
  | 50 => ⟨S16, .i1⟩
  | 51 => ⟨S_, .f32⟩
  | 52 => ⟨S16, .f32⟩
  | 53 => ⟨S_, .f32⟩
  | 54 => ⟨S16, .f32⟩
  | 55 => ⟨S16, .f32⟩
  | 56 => ⟨S16, .f32⟩
  | 57 => ⟨S_, .f32⟩
  | 58 => ⟨S_, .f32⟩
  | 59 => ⟨S16, .f32⟩
  | 60 => ⟨S16, .f32⟩
  | _ => ⟨S16x6x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x6x128x128, .f32⟩

abbrev bufTy : (tb : Table) → Fin (tcTables nBuf tb) → BufTy
  | .hbm, ⟨i, _⟩ => hbmTy i
  | _, _ => ⟨S16x6x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_16 : Ref sig .tc := ⟨.hbm, 81, rfl⟩
abbrev main_call2_v0 : Ref sig .tc := ⟨.hbm, 82, rfl⟩
abbrev main_call2_v1 : Ref sig .tc := ⟨.hbm, 83, rfl⟩
abbrev main_v55 : Ref sig .tc := ⟨.hbm, 84, rfl⟩
abbrev main_v56 : Ref sig .tc := ⟨.hbm, 85, rfl⟩
abbrev main_c_17 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_18 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_19 : Ref sig .tc := ⟨.hbm, 94, rfl⟩
abbrev main_v63 : Ref sig .tc := ⟨.hbm, 95, rfl⟩
abbrev main_cst_20 : Ref sig .tc := ⟨.hbm, 96, rfl⟩
abbrev main_v64 : Ref sig .tc := ⟨.hbm, 97, rfl⟩
abbrev main_cst_21 : Ref sig .tc := ⟨.hbm, 98, rfl⟩
abbrev main_v65 : Ref sig .tc := ⟨.hbm, 99, rfl⟩
abbrev main_v66 : Ref sig .tc := ⟨.hbm, 100, rfl⟩
abbrev main_cst_22 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_23 : Ref sig .tc := ⟨.hbm, 108, rfl⟩
abbrev main_v73 : Ref sig .tc := ⟨.hbm, 109, rfl⟩
abbrev main_cst_24 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_25 : Ref sig .tc := ⟨.hbm, 120, rfl⟩
abbrev main_v83 : Ref sig .tc := ⟨.hbm, 121, rfl⟩
abbrev main_cst_26 : Ref sig .tc := ⟨.hbm, 122, rfl⟩
abbrev main_v84 : Ref sig .tc := ⟨.hbm, 123, rfl⟩
abbrev main_v85 : Ref sig .tc := ⟨.hbm, 124, rfl⟩
abbrev main_cst_27 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v86 : Ref sig .tc := ⟨.hbm, 129, rfl⟩
abbrev main_v87 : Ref sig .tc := ⟨.hbm, 130, rfl⟩
abbrev main_cst_28 : Ref sig .tc := ⟨.hbm, 131, rfl⟩
abbrev main_v88 : Ref sig .tc := ⟨.hbm, 132, rfl⟩
abbrev main_v89 : Ref sig .tc := ⟨.hbm, 133, rfl⟩
abbrev main_cst_29 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v90 : Ref sig .tc := ⟨.hbm, 138, rfl⟩
abbrev main_cst_30 : Ref sig .tc := ⟨.hbm, 139, rfl⟩
abbrev main_v91 : Ref sig .tc := ⟨.hbm, 140, rfl⟩
abbrev main_v92 : Ref sig .tc := ⟨.hbm, 141, rfl⟩
abbrev main_cst_31 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_32 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_33 : Ref sig .tc := ⟨.hbm, 151, rfl⟩
abbrev main_v100 : Ref sig .tc := ⟨.hbm, 152, rfl⟩
abbrev main_cst_34 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_35 : Ref sig .tc := ⟨.hbm, 157, rfl⟩
abbrev main_call5_v0 : Ref sig .tc := ⟨.hbm, 158, rfl⟩
abbrev main_call5_v1 : Ref sig .tc := ⟨.hbm, 159, rfl⟩
abbrev main_v104 : Ref sig .tc := ⟨.hbm, 160, rfl⟩
abbrev main_v105 : Ref sig .tc := ⟨.hbm, 161, rfl⟩
abbrev main_c_36 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_c_37 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_38 : Ref sig .tc := ⟨.hbm, 170, rfl⟩
abbrev main_v112 : Ref sig .tc := ⟨.hbm, 171, rfl⟩
abbrev main_cst_39 : Ref sig .tc := ⟨.hbm, 172, rfl⟩
abbrev main_v113 : Ref sig .tc := ⟨.hbm, 173, rfl⟩
abbrev main_cst_40 : Ref sig .tc := ⟨.hbm, 174, rfl⟩
abbrev main_v114 : Ref sig .tc := ⟨.hbm, 175, rfl⟩
abbrev main_v115 : Ref sig .tc := ⟨.hbm, 176, rfl⟩
abbrev main_cst_41 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_42 : Ref sig .tc := ⟨.hbm, 184, rfl⟩
abbrev main_v122 : Ref sig .tc := ⟨.hbm, 185, rfl⟩
abbrev main_cst_43 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_44 : Ref sig .tc := ⟨.hbm, 196, rfl⟩
abbrev main_v132 : Ref sig .tc := ⟨.hbm, 197, rfl⟩
abbrev main_cst_45 : Ref sig .tc := ⟨.hbm, 198, rfl⟩
abbrev main_v133 : Ref sig .tc := ⟨.hbm, 199, rfl⟩
abbrev main_v134 : Ref sig .tc := ⟨.hbm, 200, rfl⟩
abbrev main_cst_46 : Ref sig .tc := ⟨.hbm, 201, rfl⟩
abbrev main_call6_v0 : Ref sig .tc := ⟨.hbm, 202, rfl⟩
abbrev main_call6_v1 : Ref sig .tc := ⟨.hbm, 203, rfl⟩
abbrev main_call6_v2 : Ref sig .tc := ⟨.hbm, 204, rfl⟩
abbrev main_v135 : Ref sig .tc := ⟨.hbm, 205, rfl⟩
abbrev main_v136 : Ref sig .tc := ⟨.hbm, 206, rfl⟩
abbrev main_cst_47 : Ref sig .tc := ⟨.hbm, 207, rfl⟩
abbrev main_v137 : Ref sig .tc := ⟨.hbm, 208, rfl⟩
abbrev main_v138 : Ref sig .tc := ⟨.hbm, 209, rfl⟩
abbrev main_cst_48 : Ref sig .tc := ⟨.hbm, 210, rfl⟩
abbrev main_call7_v0 : Ref sig .tc := ⟨.hbm, 211, rfl⟩
abbrev main_call7_v1 : Ref sig .tc := ⟨.hbm, 212, rfl⟩
abbrev main_call7_v2 : Ref sig .tc := ⟨.hbm, 213, rfl⟩
abbrev main_v139 : Ref sig .tc := ⟨.hbm, 214, rfl⟩
abbrev main_cst_49 : Ref sig .tc := ⟨.hbm, 215, rfl⟩
abbrev main_v140 : Ref sig .tc := ⟨.hbm, 216, rfl⟩
abbrev main_v141 : Ref sig .tc := ⟨.hbm, 217, rfl⟩
abbrev main_cst_50 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_cst_51 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_cst_52 : Ref sig .tc := ⟨.hbm, 227, rfl⟩
abbrev main_v149 : Ref sig .tc := ⟨.hbm, 228, rfl⟩
abbrev main_cst_53 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_cst_54 : Ref sig .tc := ⟨.hbm, 233, rfl⟩
abbrev main_call8_v0 : Ref sig .tc := ⟨.hbm, 234, rfl⟩
abbrev main_call8_v1 : Ref sig .tc := ⟨.hbm, 235, rfl⟩
abbrev main_v153 : Ref sig .tc := ⟨.hbm, 236, rfl⟩
abbrev main_v154 : Ref sig .tc := ⟨.hbm, 237, rfl⟩
abbrev main_c_55 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_c_56 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_cst_57 : Ref sig .tc := ⟨.hbm, 246, rfl⟩
abbrev main_v161 : Ref sig .tc := ⟨.hbm, 247, rfl⟩
abbrev main_cst_58 : Ref sig .tc := ⟨.hbm, 248, rfl⟩
abbrev main_v162 : Ref sig .tc := ⟨.hbm, 249, rfl⟩
abbrev main_cst_59 : Ref sig .tc := ⟨.hbm, 250, rfl⟩
abbrev main_v163 : Ref sig .tc := ⟨.hbm, 251, rfl⟩
abbrev main_v164 : Ref sig .tc := ⟨.hbm, 252, rfl⟩
abbrev main_cst_60 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_cst_61 : Ref sig .tc := ⟨.hbm, 260, rfl⟩
abbrev main_v171 : Ref sig .tc := ⟨.hbm, 261, rfl⟩
abbrev main_cst_62 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_cst_63 : Ref sig .tc := ⟨.hbm, 272, rfl⟩
abbrev main_v181 : Ref sig .tc := ⟨.hbm, 273, rfl⟩
abbrev main_cst_64 : Ref sig .tc := ⟨.hbm, 274, rfl⟩
abbrev main_v182 : Ref sig .tc := ⟨.hbm, 275, rfl⟩
abbrev main_v183 : Ref sig .tc := ⟨.hbm, 276, rfl⟩
abbrev main_cst_65 : Ref sig .tc := ⟨.hbm, 277, rfl⟩
abbrev main_call9_v0 : Ref sig .tc := ⟨.hbm, 278, rfl⟩
abbrev main_call9_v1 : Ref sig .tc := ⟨.hbm, 279, rfl⟩
abbrev main_call9_v2 : Ref sig .tc := ⟨.hbm, 280, rfl⟩
abbrev main_v184 : Ref sig .tc := ⟨.hbm, 281, rfl⟩
abbrev main_v185 : Ref sig .tc := ⟨.hbm, 282, rfl⟩
abbrev main_cst_66 : Ref sig .tc := ⟨.hbm, 283, rfl⟩
abbrev main_v186 : Ref sig .tc := ⟨.hbm, 284, rfl⟩
abbrev main_v187 : Ref sig .tc := ⟨.hbm, 285, rfl⟩
abbrev main_cst_67 : Ref sig .tc := ⟨.hbm, 286, rfl⟩
abbrev main_call10_v0 : Ref sig .tc := ⟨.hbm, 287, rfl⟩
abbrev main_call10_v1 : Ref sig .tc := ⟨.hbm, 288, rfl⟩
abbrev main_call10_v2 : Ref sig .tc := ⟨.hbm, 289, rfl⟩
abbrev main_v188 : Ref sig .tc := ⟨.hbm, 290, rfl⟩
abbrev main_cst_68 : Ref sig .tc := ⟨.hbm, 291, rfl⟩
abbrev main_v189 : Ref sig .tc := ⟨.hbm, 292, rfl⟩
abbrev main_v190 : Ref sig .tc := ⟨.hbm, 293, rfl⟩
abbrev main_cst_69 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_cst_70 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_cst_71 : Ref sig .tc := ⟨.hbm, 303, rfl⟩
abbrev main_v198 : Ref sig .tc := ⟨.hbm, 304, rfl⟩
abbrev main_cst_72 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_cst_73 : Ref sig .tc := ⟨.hbm, 309, rfl⟩
abbrev main_call11_v0 : Ref sig .tc := ⟨.hbm, 310, rfl⟩
abbrev main_call11_v1 : Ref sig .tc := ⟨.hbm, 311, rfl⟩
abbrev main_v202 : Ref sig .tc := ⟨.hbm, 312, rfl⟩
abbrev main_v203 : Ref sig .tc := ⟨.hbm, 313, rfl⟩
abbrev main_c_74 : Ref sig .tc := ⟨.hbm, 314, rfl⟩
abbrev main_v204 : Ref sig .tc := ⟨.hbm, 315, rfl⟩
abbrev main_v205 : Ref sig .tc := ⟨.hbm, 316, rfl⟩
abbrev main_v206 : Ref sig .tc := ⟨.hbm, 317, rfl⟩
abbrev main_c_75 : Ref sig .tc := ⟨.hbm, 318, rfl⟩
abbrev main_v207 : Ref sig .tc := ⟨.hbm, 319, rfl⟩
abbrev main_v208 : Ref sig .tc := ⟨.hbm, 320, rfl⟩
abbrev main_v209 : Ref sig .tc := ⟨.hbm, 321, rfl⟩
abbrev main_cst_76 : Ref sig .tc := ⟨.hbm, 322, rfl⟩
abbrev main_v210 : Ref sig .tc := ⟨.hbm, 323, rfl⟩
abbrev main_cst_77 : Ref sig .tc := ⟨.hbm, 324, rfl⟩
abbrev main_v211 : Ref sig .tc := ⟨.hbm, 325, rfl⟩
abbrev main_cst_78 : Ref sig .tc := ⟨.hbm, 326, rfl⟩
abbrev main_v212 : Ref sig .tc := ⟨.hbm, 327, rfl⟩
abbrev main_v213 : Ref sig .tc := ⟨.hbm, 328, rfl⟩
abbrev main_cst_79 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_cst_80 : Ref sig .tc := ⟨.hbm, 336, rfl⟩
abbrev main_v220 : Ref sig .tc := ⟨.hbm, 337, rfl⟩
abbrev main_cst_81 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_cst_82 : Ref sig .tc := ⟨.hbm, 348, rfl⟩
abbrev main_v230 : Ref sig .tc := ⟨.hbm, 349, rfl⟩
abbrev main_cst_83 : Ref sig .tc := ⟨.hbm, 350, rfl⟩
abbrev main_v231 : Ref sig .tc := ⟨.hbm, 351, rfl⟩
abbrev main_v232 : Ref sig .tc := ⟨.hbm, 352, rfl⟩
abbrev main_cst_84 : Ref sig .tc := ⟨.hbm, 353, rfl⟩
abbrev main_call12_v0 : Ref sig .tc := ⟨.hbm, 354, rfl⟩
abbrev main_call12_v1 : Ref sig .tc := ⟨.hbm, 355, rfl⟩
abbrev main_call12_v2 : Ref sig .tc := ⟨.hbm, 356, rfl⟩
abbrev main_v233 : Ref sig .tc := ⟨.hbm, 357, rfl⟩
abbrev main_v234 : Ref sig .tc := ⟨.hbm, 358, rfl⟩
abbrev main_cst_85 : Ref sig .tc := ⟨.hbm, 359, rfl⟩
abbrev main_v235 : Ref sig .tc := ⟨.hbm, 360, rfl⟩
abbrev main_v236 : Ref sig .tc := ⟨.hbm, 361, rfl⟩
abbrev main_cst_86 : Ref sig .tc := ⟨.hbm, 362, rfl⟩
abbrev main_call13_v0 : Ref sig .tc := ⟨.hbm, 363, rfl⟩
abbrev main_call13_v1 : Ref sig .tc := ⟨.hbm, 364, rfl⟩
abbrev main_call13_v2 : Ref sig .tc := ⟨.hbm, 365, rfl⟩
abbrev main_v237 : Ref sig .tc := ⟨.hbm, 366, rfl⟩
abbrev main_cst_87 : Ref sig .tc := ⟨.hbm, 367, rfl⟩
abbrev main_v238 : Ref sig .tc := ⟨.hbm, 368, rfl⟩
abbrev main_v239 : Ref sig .tc := ⟨.hbm, 369, rfl⟩
abbrev main_cst_88 : Ref sig .tc := ⟨.hbm, 370, rfl⟩
abbrev main_v240 : Ref sig .tc := ⟨.hbm, 371, rfl⟩
abbrev main_v241 : Ref sig .tc := ⟨.hbm, 372, rfl⟩
abbrev main_v242 : Ref sig .tc := ⟨.hbm, 373, rfl⟩
abbrev main_cst_89 : Ref sig .tc := ⟨.hbm, 374, rfl⟩
abbrev main_v243 : Ref sig .tc := ⟨.hbm, 375, rfl⟩
abbrev main_v244 : Ref sig .tc := ⟨.hbm, 376, rfl⟩
abbrev main_v245 : Ref sig .tc := ⟨.hbm, 377, rfl⟩
abbrev main_v246 : Ref sig .tc := ⟨.hbm, 378, rfl⟩
abbrev main_cst_90 : Ref sig .tc := ⟨.hbm, 379, rfl⟩
abbrev main_v247 : Ref sig .tc := ⟨.hbm, 380, rfl⟩
abbrev main_cst_91 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_cst_92 : Ref sig .tc := ⟨.hbm, 385, rfl⟩
abbrev main_call14_v0 : Ref sig .tc := ⟨.hbm, 386, rfl⟩
abbrev main_call14_v1 : Ref sig .tc := ⟨.hbm, 387, rfl⟩
abbrev main_v251 : Ref sig .tc := ⟨.hbm, 388, rfl⟩
abbrev main_v252 : Ref sig .tc := ⟨.hbm, 389, rfl⟩
abbrev main_c_93 : Ref sig .tc := ⟨.hbm, 390, rfl⟩
abbrev main_v253 : Ref sig .tc := ⟨.hbm, 391, rfl⟩
abbrev main_v254 : Ref sig .tc := ⟨.hbm, 392, rfl⟩
abbrev main_v255 : Ref sig .tc := ⟨.hbm, 393, rfl⟩
abbrev main_c_94 : Ref sig .tc := ⟨.hbm, 394, rfl⟩
abbrev main_v256 : Ref sig .tc := ⟨.hbm, 395, rfl⟩
abbrev main_v257 : Ref sig .tc := ⟨.hbm, 396, rfl⟩
abbrev main_v258 : Ref sig .tc := ⟨.hbm, 397, rfl⟩
abbrev main_cst_95 : Ref sig .tc := ⟨.hbm, 398, rfl⟩
abbrev main_v259 : Ref sig .tc := ⟨.hbm, 399, rfl⟩
abbrev main_cst_96 : Ref sig .tc := ⟨.hbm, 400, rfl⟩
abbrev main_v260 : Ref sig .tc := ⟨.hbm, 401, rfl⟩
abbrev main_cst_97 : Ref sig .tc := ⟨.hbm, 402, rfl⟩
abbrev main_v261 : Ref sig .tc := ⟨.hbm, 403, rfl⟩
abbrev main_v262 : Ref sig .tc := ⟨.hbm, 404, rfl⟩
abbrev main_cst_98 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_cst_99 : Ref sig .tc := ⟨.hbm, 412, rfl⟩
abbrev main_v269 : Ref sig .tc := ⟨.hbm, 413, rfl⟩
abbrev main_cst_100 : Ref sig .tc := ⟨.hbm, 414, rfl⟩
abbrev main_v270 : Ref sig .tc := ⟨.hbm, 415, rfl⟩
abbrev main_v271 : Ref sig .tc := ⟨.hbm, 416, rfl⟩
abbrev main_v272 : Ref sig .tc := ⟨.hbm, 417, rfl⟩
abbrev main_v273 : Ref sig .tc := ⟨.hbm, 418, rfl⟩
abbrev main_v274 : Ref sig .tc := ⟨.hbm, 419, rfl⟩
abbrev main_v275 : Ref sig .tc := ⟨.hbm, 420, rfl⟩
abbrev main_v276 : Ref sig .tc := ⟨.hbm, 421, rfl⟩
abbrev main_v277 : Ref sig .tc := ⟨.hbm, 422, rfl⟩
abbrev main_v278 : Ref sig .tc := ⟨.hbm, 423, rfl⟩
abbrev main_cst_101 : Ref sig .tc := ⟨.hbm, 424, rfl⟩
abbrev main_v279 : Ref sig .tc := ⟨.hbm, 425, rfl⟩
abbrev main_cst_102 : Ref sig .tc := ⟨.hbm, 426, rfl⟩
abbrev main_v280 : Ref sig .tc := ⟨.hbm, 427, rfl⟩
abbrev main_v281 : Ref sig .tc := ⟨.hbm, 428, rfl⟩
abbrev main_cst_103 : Ref sig .tc := ⟨.hbm, 429, rfl⟩
abbrev main_call15_v0 : Ref sig .tc := ⟨.hbm, 430, rfl⟩
abbrev main_call15_v1 : Ref sig .tc := ⟨.hbm, 431, rfl⟩
abbrev main_call15_v2 : Ref sig .tc := ⟨.hbm, 432, rfl⟩
abbrev main_v282 : Ref sig .tc := ⟨.hbm, 433, rfl⟩
abbrev main_v283 : Ref sig .tc := ⟨.hbm, 434, rfl⟩
abbrev main_cst_104 : Ref sig .tc := ⟨.hbm, 435, rfl⟩
abbrev main_v284 : Ref sig .tc := ⟨.hbm, 436, rfl⟩
abbrev main_v285 : Ref sig .tc := ⟨.hbm, 437, rfl⟩
abbrev main_cst_105 : Ref sig .tc := ⟨.hbm, 438, rfl⟩
abbrev main_call16_v0 : Ref sig .tc := ⟨.hbm, 439, rfl⟩
abbrev main_call16_v1 : Ref sig .tc := ⟨.hbm, 440, rfl⟩
abbrev main_call16_v2 : Ref sig .tc := ⟨.hbm, 441, rfl⟩
abbrev main_v286 : Ref sig .tc := ⟨.hbm, 442, rfl⟩
abbrev main_cst_106 : Ref sig .tc := ⟨.hbm, 443, rfl⟩
abbrev main_v287 : Ref sig .tc := ⟨.hbm, 444, rfl⟩
abbrev main_v288 : Ref sig .tc := ⟨.hbm, 445, rfl⟩
abbrev main_cst_107 : Ref sig .tc := ⟨.hbm, 446, rfl⟩
abbrev main_v289 : Ref sig .tc := ⟨.hbm, 447, rfl⟩
abbrev main_v290 : Ref sig .tc := ⟨.hbm, 448, rfl⟩
abbrev main_v291 : Ref sig .tc := ⟨.hbm, 449, rfl⟩
abbrev main_cst_108 : Ref sig .tc := ⟨.hbm, 450, rfl⟩
abbrev main_v292 : Ref sig .tc := ⟨.hbm, 451, rfl⟩
abbrev main_v293 : Ref sig .tc := ⟨.hbm, 452, rfl⟩
abbrev main_v294 : Ref sig .tc := ⟨.hbm, 453, rfl⟩
abbrev main_v295 : Ref sig .tc := ⟨.hbm, 454, rfl⟩
abbrev main_cst_109 : Ref sig .tc := ⟨.hbm, 455, rfl⟩
abbrev main_v296 : Ref sig .tc := ⟨.hbm, 456, rfl⟩
abbrev main_cst_110 : Ref sig .tc := ⟨.hbm, 457, rfl⟩
abbrev main_v297 : Ref sig .tc := ⟨.hbm, 458, rfl⟩
abbrev main_v298 : Ref sig .tc := ⟨.hbm, 459, rfl⟩
abbrev main_v299 : Ref sig .tc := ⟨.hbm, 460, rfl⟩
abbrev main_cst_111 : Ref sig .tc := ⟨.hbm, 461, rfl⟩
abbrev main_call17_v0 : Ref sig .tc := ⟨.hbm, 462, rfl⟩
abbrev main_call17_v1 : Ref sig .tc := ⟨.hbm, 463, rfl⟩
abbrev main_v300 : Ref sig .tc := ⟨.hbm, 464, rfl⟩
abbrev main_v301 : Ref sig .tc := ⟨.hbm, 465, rfl⟩
abbrev main_c_112 : Ref sig .tc := ⟨.hbm, 466, rfl⟩
abbrev main_v302 : Ref sig .tc := ⟨.hbm, 467, rfl⟩
abbrev main_v303 : Ref sig .tc := ⟨.hbm, 468, rfl⟩
abbrev main_v304 : Ref sig .tc := ⟨.hbm, 469, rfl⟩
abbrev main_c_113 : Ref sig .tc := ⟨.hbm, 470, rfl⟩
abbrev main_v305 : Ref sig .tc := ⟨.hbm, 471, rfl⟩
abbrev main_v306 : Ref sig .tc := ⟨.hbm, 472, rfl⟩
abbrev main_v307 : Ref sig .tc := ⟨.hbm, 473, rfl⟩
abbrev main_cst_114 : Ref sig .tc := ⟨.hbm, 474, rfl⟩
abbrev main_v308 : Ref sig .tc := ⟨.hbm, 475, rfl⟩
abbrev main_cst_115 : Ref sig .tc := ⟨.hbm, 476, rfl⟩
abbrev main_v309 : Ref sig .tc := ⟨.hbm, 477, rfl⟩
abbrev main_cst_116 : Ref sig .tc := ⟨.hbm, 478, rfl⟩
abbrev main_v310 : Ref sig .tc := ⟨.hbm, 479, rfl⟩
abbrev main_v311 : Ref sig .tc := ⟨.hbm, 480, rfl⟩
abbrev main_cst_117 : Ref sig .tc := ⟨.hbm, 481, rfl⟩
abbrev main_v312 : Ref sig .tc := ⟨.hbm, 482, rfl⟩
abbrev main_v313 : Ref sig .tc := ⟨.hbm, 483, rfl⟩
abbrev main_v314 : Ref sig .tc := ⟨.hbm, 484, rfl⟩
abbrev main_v315 : Ref sig .tc := ⟨.hbm, 485, rfl⟩
abbrev main_v316 : Ref sig .tc := ⟨.hbm, 486, rfl⟩
abbrev main_v317 : Ref sig .tc := ⟨.hbm, 487, rfl⟩
abbrev main_cst_118 : Ref sig .tc := ⟨.hbm, 488, rfl⟩
abbrev main_v318 : Ref sig .tc := ⟨.hbm, 489, rfl⟩
abbrev main_cst_119 : Ref sig .tc := ⟨.hbm, 490, rfl⟩
abbrev main_v319 : Ref sig .tc := ⟨.hbm, 491, rfl⟩
abbrev main_v320 : Ref sig .tc := ⟨.hbm, 492, rfl⟩
abbrev main_v321 : Ref sig .tc := ⟨.hbm, 493, rfl⟩
abbrev main_v322 : Ref sig .tc := ⟨.hbm, 494, rfl⟩
abbrev main_v323 : Ref sig .tc := ⟨.hbm, 495, rfl⟩
abbrev main_v324 : Ref sig .tc := ⟨.hbm, 496, rfl⟩
abbrev main_v325 : Ref sig .tc := ⟨.hbm, 497, rfl⟩
abbrev main_v326 : Ref sig .tc := ⟨.hbm, 498, rfl⟩
abbrev main_v327 : Ref sig .tc := ⟨.hbm, 499, rfl⟩
abbrev main_cst_120 : Ref sig .tc := ⟨.hbm, 500, rfl⟩
abbrev main_v328 : Ref sig .tc := ⟨.hbm, 501, rfl⟩
abbrev main_cst_121 : Ref sig .tc := ⟨.hbm, 502, rfl⟩
abbrev main_v329 : Ref sig .tc := ⟨.hbm, 503, rfl⟩
abbrev main_v330 : Ref sig .tc := ⟨.hbm, 504, rfl⟩
abbrev main_cst_122 : Ref sig .tc := ⟨.hbm, 505, rfl⟩
abbrev main_call18_v0 : Ref sig .tc := ⟨.hbm, 506, rfl⟩
abbrev main_call18_v1 : Ref sig .tc := ⟨.hbm, 507, rfl⟩
abbrev main_call18_v2 : Ref sig .tc := ⟨.hbm, 508, rfl⟩
abbrev main_v331 : Ref sig .tc := ⟨.hbm, 509, rfl⟩
abbrev main_v332 : Ref sig .tc := ⟨.hbm, 510, rfl⟩
abbrev main_cst_123 : Ref sig .tc := ⟨.hbm, 511, rfl⟩
abbrev main_v333 : Ref sig .tc := ⟨.hbm, 512, rfl⟩
abbrev main_v334 : Ref sig .tc := ⟨.hbm, 513, rfl⟩
abbrev main_cst_124 : Ref sig .tc := ⟨.hbm, 514, rfl⟩
abbrev main_call19_v0 : Ref sig .tc := ⟨.hbm, 515, rfl⟩
abbrev main_call19_v1 : Ref sig .tc := ⟨.hbm, 516, rfl⟩
abbrev main_call19_v2 : Ref sig .tc := ⟨.hbm, 517, rfl⟩
abbrev main_v335 : Ref sig .tc := ⟨.hbm, 518, rfl⟩
abbrev main_cst_125 : Ref sig .tc := ⟨.hbm, 519, rfl⟩
abbrev main_v336 : Ref sig .tc := ⟨.hbm, 520, rfl⟩
abbrev main_v337 : Ref sig .tc := ⟨.hbm, 521, rfl⟩
abbrev main_cst_126 : Ref sig .tc := ⟨.hbm, 522, rfl⟩
abbrev main_v338 : Ref sig .tc := ⟨.hbm, 523, rfl⟩
abbrev main_v339 : Ref sig .tc := ⟨.hbm, 524, rfl⟩
abbrev main_v340 : Ref sig .tc := ⟨.hbm, 525, rfl⟩
abbrev main_cst_127 : Ref sig .tc := ⟨.hbm, 526, rfl⟩
abbrev main_v341 : Ref sig .tc := ⟨.hbm, 527, rfl⟩
abbrev main_v342 : Ref sig .tc := ⟨.hbm, 528, rfl⟩
abbrev main_v343 : Ref sig .tc := ⟨.hbm, 529, rfl⟩
abbrev main_v344 : Ref sig .tc := ⟨.hbm, 530, rfl⟩
abbrev main_cst_128 : Ref sig .tc := ⟨.hbm, 531, rfl⟩
abbrev main_v345 : Ref sig .tc := ⟨.hbm, 532, rfl⟩
abbrev main_cst_129 : Ref sig .tc := ⟨.hbm, 533, rfl⟩
abbrev main_v346 : Ref sig .tc := ⟨.hbm, 534, rfl⟩
abbrev main_v347 : Ref sig .tc := ⟨.hbm, 535, rfl⟩
abbrev main_v348 : Ref sig .tc := ⟨.hbm, 536, rfl⟩
abbrev main_cst_130 : Ref sig .tc := ⟨.hbm, 537, rfl⟩
abbrev main_call20_v0 : Ref sig .tc := ⟨.hbm, 538, rfl⟩
abbrev main_call20_v1 : Ref sig .tc := ⟨.hbm, 539, rfl⟩
abbrev main_v349 : Ref sig .tc := ⟨.hbm, 540, rfl⟩
abbrev main_v350 : Ref sig .tc := ⟨.hbm, 541, rfl⟩
abbrev main_v351 : Ref sig .tc := ⟨.hbm, 542, rfl⟩
abbrev main_v352 : Ref sig .tc := ⟨.hbm, 543, rfl⟩
abbrev main_v353 : Ref sig .tc := ⟨.hbm, 544, rfl⟩
abbrev main_v354 : Ref sig .tc := ⟨.hbm, 545, rfl⟩
abbrev main_v355 : Ref sig .tc := ⟨.hbm, 546, rfl⟩
abbrev main_v356 : Ref sig .tc := ⟨.hbm, 547, rfl⟩
abbrev main_v357 : Ref sig .tc := ⟨.hbm, 548, rfl⟩
abbrev main_v358 : Ref sig .tc := ⟨.hbm, 549, rfl⟩
abbrev main_v359 : Ref sig .tc := ⟨.hbm, 550, rfl⟩
abbrev main_v360 : Ref sig .tc := ⟨.hbm, 551, rfl⟩
abbrev main_v361 : Ref sig .tc := ⟨.hbm, 552, rfl⟩
abbrev main_v362 : Ref sig .tc := ⟨.hbm, 553, rfl⟩
abbrev main_v363 : Ref sig .tc := ⟨.hbm, 554, rfl⟩
abbrev main_v364 : Ref sig .tc := ⟨.hbm, 555, rfl⟩
abbrev main_v365 : Ref sig .tc := ⟨.hbm, 556, rfl⟩
abbrev main_v366 : Ref sig .tc := ⟨.hbm, 557, rfl⟩
abbrev main_cst_131 : Ref sig .tc := ⟨.hbm, 558, rfl⟩
abbrev main_v367 : Ref sig .tc := ⟨.hbm, 559, rfl⟩
abbrev main_cst_132 : Ref sig .tc := ⟨.hbm, 560, rfl⟩
abbrev main_v368 : Ref sig .tc := ⟨.hbm, 561, rfl⟩
abbrev main_v369 : Ref sig .tc := ⟨.hbm, 562, rfl⟩
abbrev main_cst_133 : Ref sig .tc := ⟨.hbm, 563, rfl⟩
abbrev main_v370 : Ref sig .tc := ⟨.hbm, 564, rfl⟩
abbrev main_cst_134 : Ref sig .tc := ⟨.hbm, 565, rfl⟩
abbrev main_v371 : Ref sig .tc := ⟨.hbm, 566, rfl⟩
abbrev main_v372 : Ref sig .tc := ⟨.hbm, 567, rfl⟩
abbrev main_v373 : Ref sig .tc := ⟨.hbm, 568, rfl⟩
abbrev main_cst_135 : Ref sig .tc := ⟨.hbm, 569, rfl⟩
abbrev main_call21_v0 : Ref sig .tc := ⟨.hbm, 570, rfl⟩
abbrev main_call21_v1 : Ref sig .tc := ⟨.hbm, 571, rfl⟩
abbrev main_v374 : Ref sig .tc := ⟨.hbm, 572, rfl⟩

abbrev nD : Nat := 1
abbrev τ : Topo := Topo.v7x

variable {F : FTy → Type} [FloatOps F]
-- ==== Proof.Spec.lean ====
/-
  The aggregation loss of one sample, as mathematics over the extended reals, free of arrays and of the order in which
  either program visits the pixels: four feature planes and two label planes over any finite set of pixels.
-/
module

public import Idealize.ShloMosaic.PureOps.Ideal
public import Idealize.ShloMosaic.Lib.Pointwise

@[expose] public section

noncomputable section

namespace Cert.Loss

open Idealize.ShloMosaic

variable {P Q : Type} [Fintype P] [Fintype Q]

/-- One where the pixel carries the label `k`, zero elsewhere. -/
def mark (x : P → BitVec 32) (k : BitVec 32) (p : P) : EReal := if x p = k then 1 else 0

/-- How many pixels carry the label `k`. -/
def tally (x : P → BitVec 32) (k : BitVec 32) : EReal := ∑ p, mark x k p

/-- The mean of a feature plane over the kernel pixels of text `k` (the divisor is at least one). -/
def centre (s : P → EReal) (tk : P → BitVec 32) (k : BitVec 32) : EReal :=
  Ideal.div (∑ p, s p * mark tk k p) (max (tally tk k) 1)

/-- The squared distance from a pixel's feature vector to the mean feature vector of text `k`. -/
def sqDist (sv : Fin 4 → P → EReal) (tk : P → BitVec 32) (k : BitVec 32) (p : P) : EReal :=
  ∑ c : Fin 4, (sv c p - centre (sv c) tk k) * (sv c p - centre (sv c) tk k)

/-- The square root of a positive number, zero otherwise. -/
def root (q : EReal) : EReal := if 0 < q then Ideal.sqrt (if 0 < q then q else 1) else 0

/-- By how much the distance with square `q` is greater than one half, at least zero. -/
def excess (q : EReal) : EReal := max (root q - ((1 / 2 : ℝ) : EReal)) 0

/-- The loss of one pixel whose squared distance is `q`. -/
def pixel (q : EReal) : EReal := Ideal.log (excess q * excess q + 1)

/-- The mean pixel loss over the text pixels of text `k` (the divisor is at least one). -/
def meanLoss (sv : Fin 4 → P → EReal) (tt tk : P → BitVec 32) (k : BitVec 32) : EReal :=
  Ideal.div (∑ p, pixel (sqDist sv tk k p) * mark tt k p) (max (tally tt k) 1)

/-- Text `k` has both text pixels and kernel pixels. -/
def present (tt tk : P → BitVec 32) (k : BitVec 32) : Prop := 0 < tally tt k ∧ 0 < tally tk k

instance (tt tk : P → BitVec 32) (k : BitVec 32) : Decidable (present tt tk k) :=
  inferInstanceAs (Decidable (_ ∧ _))

/-- The loss of text `k`, zero when it is not present. -/
def textLoss (sv : Fin 4 → P → EReal) (tt tk : P → BitVec 32) (k : BitVec 32) : EReal :=
  if present tt tk k then meanLoss sv tt tk k else 0

/-- One when text `k` is present, zero when it is not. -/
def textCount (tt tk : P → BitVec 32) (k : BitVec 32) : EReal := if present tt tk k then 1 else 0

/-- The label of the `i`-th text: the labels are `1` to `7`. -/
def label (i : Fin 7) : BitVec 32 := BitVec.ofNat 32 (i.val + 1)

/-- The mean of a total `a` over `n` things, zero when there are none. -/
def average (a n : EReal) : EReal := if 0 < n then Ideal.div a (max n 1) else 0

/-- The loss of a sample: the mean of the losses of the texts that are present. -/
def sample (sv : Fin 4 → P → EReal) (tt tk : P → BitVec 32) : EReal :=
  average (∑ i, textLoss sv tt tk (label i)) (∑ i, textCount tt tk (label i))

/-! ### Renaming the pixels -/

/-- Renaming the pixels leaves a tally as it is. -/
theorem tally_comp (e : Q ≃ P) (x : P → BitVec 32) (k : BitVec 32) : tally (x ∘ e) k = tally x k :=
  e.sum_comp fun p => mark x k p

/-- Renaming the pixels leaves the mean of a plane over the kernel pixels as it is. -/
theorem centre_comp (e : Q ≃ P) (s : P → EReal) (tk : P → BitVec 32) (k : BitVec 32) :
    centre (s ∘ e) (tk ∘ e) k = centre s tk k := by
  unfold centre
  rw [tally_comp]
  exact congrArg (Ideal.div · _) (e.sum_comp fun p => s p * mark tk k p)

/-- With the pixels renamed, the squared distance at a pixel is the one at the pixel it is renamed to. -/
theorem sqDist_comp (e : Q ≃ P) (sv : Fin 4 → P → EReal) (tk : P → BitVec 32) (k : BitVec 32) (q : Q) :
    sqDist (fun c => sv c ∘ e) (tk ∘ e) k q = sqDist sv tk k (e q) := by
  simp only [sqDist, centre_comp, Function.comp_apply]

/-- Renaming the pixels leaves the mean pixel loss as it is. -/
theorem meanLoss_comp (e : Q ≃ P) (sv : Fin 4 → P → EReal) (tt tk : P → BitVec 32) (k : BitVec 32) :
    meanLoss (fun c => sv c ∘ e) (tt ∘ e) (tk ∘ e) k = meanLoss sv tt tk k := by
  unfold meanLoss
  simp only [tally_comp, sqDist_comp]
  exact congrArg (Ideal.div · _) (e.sum_comp fun p => pixel (sqDist sv tk k p) * mark tt k p)

/-- The loss of a sample does not depend on how the pixels are named. -/
theorem sample_comp (e : Q ≃ P) (sv : Fin 4 → P → EReal) (tt tk : P → BitVec 32) :
    sample (fun c => sv c ∘ e) (tt ∘ e) (tk ∘ e) = sample sv tt tk := by
  have hp (k : BitVec 32) : present (tt ∘ e) (tk ∘ e) k ↔ present tt tk k := by simp only [present, tally_comp]
  have hl (k : BitVec 32) : textLoss (fun c => sv c ∘ e) (tt ∘ e) (tk ∘ e) k = textLoss sv tt tk k :=
    if_congr (hp k) (meanLoss_comp e sv tt tk k) rfl
  have hc (k : BitVec 32) : textCount (tt ∘ e) (tk ∘ e) k = textCount tt tk k := if_congr (hp k) rfl rfl
  simp only [sample, hl, hc]

/-! ### Dividing by a tally -/

/-- A tally is a natural number. -/
theorem tally_eq (x : P → BitVec 32) (k : BitVec 32) : ∃ n : ℕ, tally x k = ((n : ℝ) : EReal) :=
  ⟨(Finset.univ.filter fun p => x p = k).card, by simp [tally, mark, Finset.sum_boole]⟩

/-- Multiplying by the reciprocal of a tally that is at least one is dividing by it. -/
theorem mul_recip (x : P → BitVec 32) (k : BitVec 32) (a : EReal) :
    a * Ideal.div 1 (max (tally x k) 1) = Ideal.div a (max (tally x k) 1) := by
  obtain ⟨n, hn⟩ := tally_eq x k
  have hm : max (tally x k) 1 = ((max (n : ℝ) 1 : ℝ) : EReal) := by
    rw [hn, EReal.coe_strictMono.monotone.map_max]; rfl
  have h0 : max (n : ℝ) 1 ≠ 0 := (lt_of_lt_of_le one_pos (le_max_right _ _)).ne'
  rw [hm, Ideal.div_coe h0, Ideal.div_coe h0, one_mul]

/-! ### The whole batch -/

/-- The four feature planes of sample `n`: the last four of the six planes of predictions. -/
def planes (preds : (⟨4, ![16, 6, 128, 128]⟩ : Shape).Idx → EReal) (n : Fin 16) (c : Fin 4) (q : Fin 128 × Fin 128) : EReal :=
  preds (ix4 n ⟨2 + c.val, by omega⟩ q.1 q.2)

/-- A label plane of sample `n`: plane `0` marks the texts, plane `1` their kernels. -/
def targetPlane (targets : (⟨4, ![16, 2, 128, 128]⟩ : Shape).Idx → BitVec 32) (b : Fin 2) (n : Fin 16)
    (q : Fin 128 × Fin 128) : BitVec 32 :=
  targets (ix4 n b q.1 q.2)

/-- The loss of sample `n` of a batch. -/
def batch (preds : (⟨4, ![16, 6, 128, 128]⟩ : Shape).Idx → EReal) (targets : (⟨4, ![16, 2, 128, 128]⟩ : Shape).Idx → BitVec 32)
    (n : Fin 16) : EReal :=
  sample (planes preds n) (targetPlane targets 0 n) (targetPlane targets 1 n)

end Cert.Loss
-- ==== Proof.Consts.lean ====
/-
  The one float constant of the two programs that is neither zero nor one, and what a truth value converted to a float is.
-/
module

public import Idealize.ShloMosaic.PureOps.Ideal
public import Idealize.ShloMosaic.Lib.ValueIdx

@[expose] public section

namespace Cert.Loss

open Idealize.ShloMosaic

/-- The pattern `0x3F000000` denotes one half. -/
theorem ofBits_half : Ideal.ofBits .f32 0x3F000000#32 = ((1 / 2 : ℝ) : EReal) := by
  simp [Ideal.ofBits, Ideal.ieee, -EReal.coe_mul]; norm_num

/-- A truth value read as an unsigned number is one or zero. -/
theorem uitofp_ofBool (p : Prop) [Decidable p] :
    (FloatOps.uitofp (F := Ideal) .f32 (BitVec.ofBool (decide p)) : EReal) = if p then 1 else 0 := by
  show ((((BitVec.ofBool (decide p)).toNat : ℝ)) : EReal) = _
  by_cases h : p <;> simp [h]

/-- A truth value widened to a word and read as a signed number is one or zero. -/
theorem sitofp_ofBool (p : Prop) [Decidable p] :
    (FloatOps.sitofp (F := Ideal) .f32 ((BitVec.ofBool (decide p)).setWidth 32) : EReal) = if p then 1 else 0 := by
  show ((((BitVec.ofBool (decide p)).setWidth 32).toInt : ℝ) : EReal) = _
  by_cases h : p <;> simp [h]

/-- The conjunction of two truth values is the truth value of the conjunction. -/
theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- A choice on a truth value. -/
theorem select_ofBool {α : Type} (p : Prop) [Decidable p] (a b : α) :
    Scalar.select (BitVec.ofBool (decide p)) a b = if p then a else b := by
  by_cases h : p <;> simp [h, Scalar.select]

end Cert.Loss
-- ==== Proof.KernelText.lean ====
/-
  What the kernel's body computes for one text, as a function of the label: the planes and the scalars it forms on the way,
  each of them in the words of the specification. The seven texts of the body are seven instances of these definitions.
-/
module

public import proofs.«01_k».proof.Proof.Spec
public import proofs.«01_k».proof.Proof.Consts
public import proofs.«01_k».proof.Proof.Gen.KernelIdeal
public import Idealize.ShloMosaic.Lib.Pointwise

@[expose] public section

noncomputable section

namespace Cert.KernelIdeal.Text

open Idealize.ShloMosaic Cert.Loss Cert.KernelIdeal.Gen

/-- The plane of a label plane's marks for the label `k`. -/
def marks (x : IVec S128x128 32) (k : BitVec 32) : FVec Ideal S128x128 .f32 :=
  sitofp .f32 (extui 32 (cmpi .eq x (broadcast S128x128 k)) natLt_1_32)

/-- The sum of a plane. -/
def total (x : FVec Ideal S128x128 .f32) : Ideal .f32 :=
  extractAt ![0, 0, 0] (shapeCast S1x1x1 (multiReduction .add [1, 2] S1
    (shapeCast S1x128x128 x shapeCasts_S128x128_S1x128x128) 0x00000000#32 reduces_S1x128x128_S1 (.inl rfl) rfl)
    shapeCasts_S1_S1x1x1) inpos_S1x1x1_p0_0_0

/-- The reciprocal of the number of pixels with the label `k`, taken as at least one. -/
def recip (x : IVec S128x128 32) (k : BitVec 32) : Ideal .f32 :=
  Scalar.divf (Scalar.ofBits .f32 0x3F800000#32) (Scalar.maximumf (total (marks x k)) (Scalar.ofBits .f32 0x3F800000#32))

/-- A feature plane cut out of the four. -/
def feature (sv : FVec Ideal S4x128x128 .f32) (off : Fin S4x128x128.rank → Nat) (h : S4x128x128.Slices off S1x128x128) :
    FVec Ideal S128x128 .f32 :=
  shapeCast S128x128 (extractStridedSlice S1x128x128 off sv h) shapeCasts_S1x128x128_S128x128

/-- A feature plane less its mean over the kernel pixels of text `k`. -/
def offsets (s : FVec Ideal S128x128 .f32) (tk : IVec S128x128 32) (k : BitVec 32) : FVec Ideal S128x128 .f32 :=
  subf s (broadcast S128x128 (Scalar.mulf (total (mulf s (marks tk k))) (recip tk k)))

/-- The squared lengths of the differences, the four planes added in order. -/
def squares (sv : FVec Ideal S4x128x128 .f32) (tk : IVec S128x128 32) (k : BitVec 32) : FVec Ideal S128x128 .f32 :=
  addf (addf (addf (addf (broadcast S128x128 (Scalar.ofBits .f32 0x00000000#32))
    (mulf (offsets (feature sv ![0, 0, 0] slices_S4x128x128_o0_0_0_S1x128x128) tk k)
      (offsets (feature sv ![0, 0, 0] slices_S4x128x128_o0_0_0_S1x128x128) tk k)))
    (mulf (offsets (feature sv ![1, 0, 0] slices_S4x128x128_o1_0_0_S1x128x128) tk k)
      (offsets (feature sv ![1, 0, 0] slices_S4x128x128_o1_0_0_S1x128x128) tk k)))
    (mulf (offsets (feature sv ![2, 0, 0] slices_S4x128x128_o2_0_0_S1x128x128) tk k)
      (offsets (feature sv ![2, 0, 0] slices_S4x128x128_o2_0_0_S1x128x128) tk k)))
    (mulf (offsets (feature sv ![3, 0, 0] slices_S4x128x128_o3_0_0_S1x128x128) tk k)
      (offsets (feature sv ![3, 0, 0] slices_S4x128x128_o3_0_0_S1x128x128) tk k))

/-- From the squared lengths, by how much the lengths are greater than one half. -/
def excesses (q : FVec Ideal S128x128 .f32) : FVec Ideal S128x128 .f32 :=
  maximumf
    (subf
      (select (cmpf .ogt q (broadcast S128x128 (Scalar.ofBits .f32 0x00000000#32)))
        (sqrt (select (cmpf .ogt q (broadcast S128x128 (Scalar.ofBits .f32 0x00000000#32))) q
          (broadcast S128x128 (Scalar.ofBits .f32 0x3F800000#32))))
        (broadcast S128x128 (Scalar.ofBits .f32 0x00000000#32)))
      (broadcast S128x128 (Scalar.ofBits .f32 0x3F000000#32)))
    (broadcast S128x128 (Scalar.ofBits .f32 0x00000000#32))

/-- Whether text `k` is present. -/
def presence (tt tk : IVec S128x128 32) (k : BitVec 32) : BitVec 1 :=
  Scalar.andi (Scalar.cmpf .ogt (total (marks tk k)) (Scalar.ofBits .f32 0x00000000#32))
    (Scalar.cmpf .ogt (total (marks tt k)) (Scalar.ofBits .f32 0x00000000#32))

/-- The loss of text `k`. -/
def loss (sv : FVec Ideal S4x128x128 .f32) (tt tk : IVec S128x128 32) (k : BitVec 32) : Ideal .f32 :=
  Scalar.select (presence tt tk k)
    (Scalar.divf
      (total (mulf (log (addf (mulf (excesses (squares sv tk k)) (excesses (squares sv tk k)))
        (broadcast S128x128 (Scalar.ofBits .f32 0x3F800000#32)))) (marks tt k)))
      (Scalar.maximumf (total (marks tt k)) (Scalar.ofBits .f32 0x3F800000#32)))
    (Scalar.ofBits .f32 0x00000000#32)

/-- One when text `k` is present, zero when it is not. -/
def weight (tt tk : IVec S128x128 32) (k : BitVec 32) : Ideal .f32 :=
  Scalar.select (presence tt tk k) (Scalar.ofBits .f32 0x3F800000#32) (Scalar.ofBits .f32 0x00000000#32)

/-- Seven scalars, one per text, added in order to zero. -/
def chain (f : Fin 7 → Ideal .f32) : Ideal .f32 :=
  Scalar.addf (Scalar.addf (Scalar.addf (Scalar.addf (Scalar.addf (Scalar.addf (Scalar.addf
    (Scalar.ofBits .f32 0x00000000#32) (f 0)) (f 1)) (f 2)) (f 3)) (f 4)) (f 5)) (f 6)

/-- The body's quotient, from the total loss and the number of texts present. -/
def quotient (a n : Ideal .f32) : Ideal .f32 :=
  Scalar.select (Scalar.cmpf .ogt n (Scalar.ofBits .f32 0x00000000#32))
    (Scalar.divf a (Scalar.maximumf n (Scalar.ofBits .f32 0x3F800000#32))) (Scalar.ofBits .f32 0x00000000#32)

/-- The body's result, from the four feature planes and the two label planes. -/
def answer (sv : FVec Ideal S4x128x128 .f32) (tt tk : IVec S128x128 32) : Ideal .f32 :=
  quotient (chain fun i => loss sv tt tk (label i)) (chain fun i => weight tt tk (label i))

/-! ### The same, in the words of the specification -/

/-- A plane of labels as a function of the pixel. -/
def labels (x : IVec S128x128 32) (q : Fin 128 × Fin 128) : BitVec 32 := x (ix2 q.1 q.2)

/-- The four feature planes as functions of the pixel. -/
def features (sv : FVec Ideal S4x128x128 .f32) (c : Fin 4) (q : Fin 128 × Fin 128) : EReal := sv (ix3 c q.1 q.2)

/-- The marks of a label at a pixel. -/
theorem marks_apply (x : IVec S128x128 32) (k : BitVec 32) (a b : Fin 128) :
    marks x k (ix2 a b) = mark (labels x) k (a, b) := by
  pointwise [marks]
  exact sitofp_ofBool _

/-- The sum of a plane is the sum over its pixels. -/
theorem total_eq (x : FVec Ideal S128x128 .f32) : total x = ∑ q : Fin 128 × Fin 128, x (ix2 q.1 q.2) := by
  pointwise [total]
  rw [Fintype.sum_prod_type]

/-- The sum of a plane whose elements are the values of a function of the pixel. -/
theorem total_of (x : FVec Ideal S128x128 .f32) (g : Fin 128 × Fin 128 → EReal) (h : ∀ a b, x (ix2 a b) = g (a, b)) :
    total x = ∑ q, g q :=
  (total_eq x).trans (Finset.sum_congr rfl fun q _ => h q.1 q.2)

/-- The sum of the marks is the tally. -/
theorem total_marks (x : IVec S128x128 32) (k : BitVec 32) : total (marks x k) = tally (labels x) k := by
  exact total_of _ _ (marks_apply x k)

/-- One divided by a scalar that is taken as at least one, as the body writes it. -/
theorem recip_of (t : Ideal .f32) :
    (Scalar.divf (Scalar.ofBits .f32 0x3F800000#32) (Scalar.maximumf t (Scalar.ofBits .f32 0x3F800000#32)) : Ideal .f32)
      = Ideal.div 1 (max t 1) := by
  pointwise

/-- The reciprocal the body forms is that of the tally, taken as at least one. -/
theorem recip_eq (x : IVec S128x128 32) (k : BitVec 32) : recip x k = Ideal.div 1 (max (tally (labels x) k) 1) :=
  (recip_of _).trans (by rw [total_marks])

/-- Two scalars are both positive, as the body writes it. -/
theorem presence_of (t u : Ideal .f32) :
    Scalar.andi (Scalar.cmpf .ogt t (Scalar.ofBits .f32 0x00000000#32)) (Scalar.cmpf .ogt u (Scalar.ofBits .f32 0x00000000#32))
      = BitVec.ofBool (decide ((0 : EReal) < t ∧ (0 : EReal) < u)) := by
  pointwise
  exact andi_ofBool _ _

/-- The presence flag of a text is the truth value of its being present. -/
theorem presence_eq (tt tk : IVec S128x128 32) (k : BitVec 32) :
    presence tt tk k = BitVec.ofBool (decide (present (labels tt) (labels tk) k)) := by
  refine (presence_of _ _).trans (congrArg BitVec.ofBool (decide_eq_decide.2 ?_))
  rw [total_marks, total_marks]
  exact and_comm

/-- A feature less the mean of its plane over the kernel pixels: multiplying by the reciprocal of the tally is dividing by it. -/
theorem offsets_apply (s : FVec Ideal S128x128 .f32) (f : Fin 128 × Fin 128 → EReal) (hs : ∀ a b, s (ix2 a b) = f (a, b))
    (tk : IVec S128x128 32) (k : BitVec 32) (a b : Fin 128) :
    offsets s tk k (ix2 a b) = f (a, b) - centre f (labels tk) k := by
  have ht : total (mulf s (marks tk k)) = ∑ q, f q * mark (labels tk) k q := by
    refine total_of _ (fun q => f q * mark (labels tk) k q) fun a b => ?_
    pointwise
    rw [hs, marks_apply]
  pointwise [offsets]
  rw [ht, hs, recip_eq, mul_recip]
  rfl

/-- A feature plane cut out of the four, at a pixel. -/
theorem feature_apply (sv : FVec Ideal S4x128x128 .f32) (c : Fin 4) (off : Fin S4x128x128.rank → Nat)
    (h : S4x128x128.Slices off S1x128x128) (ho : off = ![c.val, 0, 0]) (a b : Fin 128) :
    feature sv off h (ix2 a b) = features sv c (a, b) := by
  subst ho
  pointwise [feature]
  rfl

/-- The four squares added in order are the squared distance. -/
theorem squares_apply (sv : FVec Ideal S4x128x128 .f32) (tk : IVec S128x128 32) (k : BitVec 32) (a b : Fin 128) :
    squares sv tk k (ix2 a b) = sqDist (features sv) (labels tk) k (a, b) := by
  pointwise [squares]
  rw [offsets_apply _ _ (feature_apply sv 0 ![0, 0, 0] _ rfl), offsets_apply _ _ (feature_apply sv 1 ![1, 0, 0] _ rfl),
    offsets_apply _ _ (feature_apply sv 2 ![2, 0, 0] _ rfl), offsets_apply _ _ (feature_apply sv 3 ![3, 0, 0] _ rfl)]
  unfold sqDist
  rw [Fin.sum_univ_four]

/-- The plane of excesses holds the excess of each squared length. -/
theorem excesses_apply (q : FVec Ideal S128x128 .f32) (a b : Fin 128) :
    excesses q (ix2 a b) = excess (q (ix2 a b)) := by
  pointwise [excesses]
  rw [ofBits_half]
  rfl

/-- The body's loss of a text is the specification's. -/
theorem loss_eq (sv : FVec Ideal S4x128x128 .f32) (tt tk : IVec S128x128 32) (k : BitVec 32) :
    loss sv tt tk k = textLoss (features sv) (labels tt) (labels tk) k := by
  have ht : total (mulf (log (addf (mulf (excesses (squares sv tk k)) (excesses (squares sv tk k)))
        (broadcast S128x128 (Scalar.ofBits .f32 0x3F800000#32)))) (marks tt k))
      = ∑ q, pixel (sqDist (features sv) (labels tk) k q) * mark (labels tt) k q := by
    refine total_of _ (fun q => pixel (sqDist (features sv) (labels tk) k q) * mark (labels tt) k q) fun a b => ?_
    pointwise
    rw [excesses_apply, squares_apply, marks_apply]
    rfl
  unfold loss
  rw [ht, presence_eq, total_marks]
  pointwise
  rfl

/-- The body's weight of a text is the specification's. -/
theorem weight_eq (tt tk : IVec S128x128 32) (k : BitVec 32) :
    weight tt tk k = textCount (labels tt) (labels tk) k := by
  pointwise [weight]
  rw [presence_eq]
  exact select_ofBool _ _ _

/-- Adding seven scalars in order is summing them. -/
theorem chain_eq (f : Fin 7 → Ideal .f32) : (chain f : EReal) = ∑ i, (f i : EReal) := by
  pointwise [chain]
  exact (Fin.sum_univ_seven _).symm

/-- The body's result is the specification's loss of the sample whose planes it is given. -/
theorem answer_eq (sv : FVec Ideal S4x128x128 .f32) (tt tk : IVec S128x128 32) :
    answer sv tt tk = sample (features sv) (labels tt) (labels tk) := by
  unfold answer
  rw [chain_eq, chain_eq]
  simp only [loss_eq, weight_eq]
  pointwise [quotient]
  rfl

end Cert.KernelIdeal.Text
-- ==== Proof.KernelBlock.lean ====
/-
  The block the kernel stores: every element of it is the generic body's result, seven texts with labels one to seven.
-/
module

public import proofs.«01_k».proof.Proof.KernelText
public import proofs.«01_k».proof.Proof.Gen.KernelIdeal.Frame
public import Idealize.ShloMosaic.Lib.Pipeline.Value

@[expose] public section

noncomputable section

namespace Cert.KernelIdeal.Text

open Idealize.ShloMosaic Cert.Loss Cert.KernelIdeal.Gen

variable (x0 : Vec Ideal S1x4x128x128 .f32) (x1 x2 : Vec Ideal S1x128x128 .i32)

set_option maxHeartbeats 4000000 in
set_option maxRecDepth 65536 in
/-- The stored block is the body's result broadcast over the block. -/
theorem out_eq : out0_3 x0 x1 x2
    = shapeCast S1x8x128 (broadcast S8x128 (answer (shapeCast S4x128x128 x0 shapeCasts_S1x4x128x128_S4x128x128)
        (shapeCast S128x128 x1 shapeCasts_S1x128x128_S128x128) (shapeCast S128x128 x2 shapeCasts_S1x128x128_S128x128)))
        shapeCasts_S8x128_S1x8x128 := by
  have e4 : (![0, 0, 0, 0] : Fin S1x4x128x128.rank → Nat) = fun _ => 0 := by decide
  have e3 : (![0, 0, 0] : Fin S1x128x128.rank → Nat) = fun _ => 0 := by decide
  have e3' : (![0, 0, 0] : Fin S1x8x128.rank → Nat) = fun _ => 0 := by decide
  unfold_out out0_3
  simp only [r0_0, r0_1, r0_2, View.ld_unit_zero (S := S1x4x128x128) e4, View.ld_unit_zero (S := S1x128x128) e3,
    View.canon_unit_zero (S := S1x8x128) e3']
  rfl

end Cert.KernelIdeal.Text
-- ==== Proof.KernelArray.lean ====
/-
  From one block to the kernel's result: the blocks that a grid point reads are a sample's planes, the blocks that the grid
  points write are the result array's rows, and the slice taken of that array is the kernel's result.
-/
module

public import proofs.«01_k».proof.Proof.KernelBlock
public import Idealize.ShloMosaic.Lib.StableHlo.ReadAt

@[expose] public section

noncomputable section

namespace Cert.KernelIdeal.Text

open Idealize.ShloMosaic Idealize.ShloMosaic.TcCoe Idealize.SL.Sem Cert.Loss Cert.KernelIdeal.Gen

variable (m : (ℓ : Loc nD τ sig) → Buf (Elt Ideal) ℓ) (ρ : Dev nD → PrngReg) (c : Dev nD)

/-! ## The arrays the region reads -/

/-- The feature array is the predictions without their first two planes. -/
theorem entry_features (n : Fin 16) (k : Fin 4) (a b : Fin 128) :
    V m c main_v0 (ix4 n k a b) = planes (m ((c : Thread nD τ).loc main_arg0)) n k (a, b) := by
  show StableHlo.after _ _ _ _ = _
  after_reads_at
  rfl

/-- The text array is the targets' first plane. -/
theorem entry_text (n : Fin 16) (a b : Fin 128) :
    V m c main_v2 (ix3 n a b) = targetPlane (m ((c : Thread nD τ).loc main_arg1)) 0 n (a, b) := by
  show StableHlo.after _ _ _ _ = _
  after_reads_at
  rfl

/-- The kernel array is the targets' second plane. -/
theorem entry_kernel (n : Fin 16) (a b : Fin 128) :
    V m c main_v4 (ix3 n a b) = targetPlane (m ((c : Thread nD τ).loc main_arg1)) 1 n (a, b) := by
  show StableHlo.after _ _ _ _ = _
  after_reads_at
  rfl

/-! ## The blocks of a grid point -/

/-- The sample a grid point handles. -/
def sampleOf (t : Fin cfg0.N) : Fin 16 := t.cast N_0

/-- The grid point that handles a sample. -/
def pointOf (n : Fin 16) : Fin cfg0.N := n.cast N_0.symm

/-- The grid point that handles a sample handles that sample. -/
theorem sampleOf_pointOf (n : Fin 16) : sampleOf (pointOf n) = n := rfl

/-- The feature window stands at the row of the grid point. -/
theorem index0 : ∀ t : Fin cfg0.N, win0_0.index t (0 : Fin 4) = t.val ∧ win0_0.index t (1 : Fin 4) = 0
    ∧ win0_0.index t (2 : Fin 4) = 0 ∧ win0_0.index t (3 : Fin 4) = 0 := (by decide +kernel : ∀ t : Fin grid0.N, _)
/-- The window of text labels stands at the row of the grid point. -/
theorem index1 : ∀ t : Fin cfg0.N, win0_1.index t (0 : Fin 3) = t.val ∧ win0_1.index t (1 : Fin 3) = 0
    ∧ win0_1.index t (2 : Fin 3) = 0 := (by decide +kernel : ∀ t : Fin grid0.N, _)
/-- The window of kernel labels stands at the row of the grid point. -/
theorem index2 : ∀ t : Fin cfg0.N, win0_2.index t (0 : Fin 3) = t.val ∧ win0_2.index t (1 : Fin 3) = 0
    ∧ win0_2.index t (2 : Fin 3) = 0 := (by decide +kernel : ∀ t : Fin grid0.N, _)
/-- The result window stands at the row of the grid point. -/
theorem index3 : ∀ t : Fin cfg0.N, win0_3.index t (0 : Fin 3) = t.val ∧ win0_3.index t (1 : Fin 3) = 0
    ∧ win0_3.index t (2 : Fin 3) = 0 := (by decide +kernel : ∀ t : Fin grid0.N, _)

/-- A place of the feature block is that place of the sample's row of the feature array. -/
theorem emb0 (t : Fin cfg0.N) (k : Fin 4) (a b : Fin 128) :
    ((cfg0.win 0).blk t).view.emb (ix4 0 k a b : S1x4x128x128.Idx) = (ix4 (sampleOf t) k a b : S16x4x128x128.Idx) := by
  obtain ⟨e0, e1, e2, e3⟩ := index0 t
  funext x; apply Fin.ext
  match x with
  | ⟨0, _⟩ => show win0_0.index t (0 : Fin 4) * 1 + 1 * 0 = t.val; omega
  | ⟨1, _⟩ => show win0_0.index t (1 : Fin 4) * 4 + 1 * k.val = k.val; omega
  | ⟨2, _⟩ => show win0_0.index t (2 : Fin 4) * 128 + 1 * a.val = a.val; omega
  | ⟨3, _⟩ => show win0_0.index t (3 : Fin 4) * 128 + 1 * b.val = b.val; omega

/-- A place of the block of text labels is that place of the sample's row. -/
theorem emb1 (t : Fin cfg0.N) (a b : Fin 128) :
    ((cfg0.win 1).blk t).view.emb (ix3 0 a b : S1x128x128.Idx) = (ix3 (sampleOf t) a b : S16x128x128.Idx) := by
  obtain ⟨e0, e1, e2⟩ := index1 t
  funext x; apply Fin.ext
  match x with
  | ⟨0, _⟩ => show win0_1.index t (0 : Fin 3) * 1 + 1 * 0 = t.val; omega
  | ⟨1, _⟩ => show win0_1.index t (1 : Fin 3) * 128 + 1 * a.val = a.val; omega
  | ⟨2, _⟩ => show win0_1.index t (2 : Fin 3) * 128 + 1 * b.val = b.val; omega

/-- A place of the block of kernel labels is that place of the sample's row. -/
theorem emb2 (t : Fin cfg0.N) (a b : Fin 128) :
    ((cfg0.win 2).blk t).view.emb (ix3 0 a b : S1x128x128.Idx) = (ix3 (sampleOf t) a b : S16x128x128.Idx) := by
  obtain ⟨e0, e1, e2⟩ := index2 t
  funext x; apply Fin.ext
  match x with
  | ⟨0, _⟩ => show win0_2.index t (0 : Fin 3) * 1 + 1 * 0 = t.val; omega
  | ⟨1, _⟩ => show win0_2.index t (1 : Fin 3) * 128 + 1 * a.val = a.val; omega
  | ⟨2, _⟩ => show win0_2.index t (2 : Fin 3) * 128 + 1 * b.val = b.val; omega

/-- A place of the result block is that place of the sample's row of the result array. -/
theorem emb3 (t : Fin cfg0.N) (r : Fin 8) (b : Fin 128) :
    ((cfg0.win 3).blk t).view.emb (ix3 0 r b : S1x8x128.Idx) = (ix3 (sampleOf t) r b : S16x8x128.Idx) := by
  obtain ⟨e0, e1, e2⟩ := index3 t
  funext x; apply Fin.ext
  match x with
  | ⟨0, _⟩ => show win0_3.index t (0 : Fin 3) * 1 + 1 * 0 = t.val; omega
  | ⟨1, _⟩ => show win0_3.index t (1 : Fin 3) * 8 + 1 * r.val = r.val; omega
  | ⟨2, _⟩ => show win0_3.index t (2 : Fin 3) * 128 + 1 * b.val = b.val; omega

/-- A block of features without its first axis. -/
theorem features_cast (x : Vec Ideal S1x4x128x128 .f32) (k : Fin 4) (q : Fin 128 × Fin 128) :
    features (shapeCast S4x128x128 x shapeCasts_S1x4x128x128_S4x128x128) k q = x (ix4 0 k q.1 q.2) := by
  unfold features
  pointwise

/-- A block of labels without its first axis. -/
theorem labels_cast (x : Vec Ideal S1x128x128 .i32) (q : Fin 128 × Fin 128) :
    labels (shapeCast S128x128 x shapeCasts_S1x128x128_S128x128) q = x (ix3 0 q.1 q.2) := by
  unfold labels
  pointwise

/-- The block of features at a grid point is the sample's four planes. -/
theorem block_features (t : Fin cfg0.N) :
    features (shapeCast S4x128x128 (iblk m c 0 t : Vec Ideal S1x4x128x128 .f32) shapeCasts_S1x4x128x128_S4x128x128)
      = planes (m ((c : Thread nD τ).loc main_arg0)) (sampleOf t) := by
  funext k q
  refine (features_cast (iblk m c 0 t) k q).trans ?_
  exact (congrArg (V m c main_v0) (emb0 t k q.1 q.2)).trans (entry_features m c (sampleOf t) k q.1 q.2)

/-- The block of text labels at a grid point is the sample's text plane. -/
theorem block_text (t : Fin cfg0.N) :
    labels (shapeCast S128x128 (iblk m c 1 t : Vec Ideal S1x128x128 .i32) shapeCasts_S1x128x128_S128x128)
      = targetPlane (m ((c : Thread nD τ).loc main_arg1)) 0 (sampleOf t) := by
  funext q
  refine (labels_cast (iblk m c 1 t) q).trans ?_
  exact (congrArg (V m c main_v2) (emb1 t q.1 q.2)).trans (entry_text m c (sampleOf t) q.1 q.2)

/-- The block of kernel labels at a grid point is the sample's kernel plane. -/
theorem block_kernel (t : Fin cfg0.N) :
    labels (shapeCast S128x128 (iblk m c 2 t : Vec Ideal S1x128x128 .i32) shapeCasts_S1x128x128_S128x128)
      = targetPlane (m ((c : Thread nD τ).loc main_arg1)) 1 (sampleOf t) := by
  funext q
  refine (labels_cast (iblk m c 2 t) q).trans ?_
  exact (congrArg (V m c main_v4) (emb2 t q.1 q.2)).trans (entry_kernel m c (sampleOf t) q.1 q.2)

/-! ## The array the region leaves -/

/-- The array of every sample's loss, repeated over the 8 × 128 places of the sample's row. -/
def rows : Buf (Elt Ideal) ((c : Thread nD τ).loc main_v5) := fun j : S16x8x128.Idx =>
  batch (m ((c : Thread nD τ).loc main_arg0)) (m ((c : Thread nD τ).loc main_arg1)) (j 0)

/-- A value broadcast over a block, at any place of it. -/
theorem broadcast_cast (x : Ideal .f32) (i : S1x8x128.Idx) :
    (shapeCast S1x8x128 (broadcast S8x128 x) shapeCasts_S8x128_S1x8x128 : FVec Ideal S1x8x128 .f32) i = x := rfl

/-- The block a grid point stores holds its sample's loss at every place. -/
theorem out_apply (t : Fin cfg0.N) (i : S1x8x128.Idx) :
    out0_3 (iblk m c 0 t) (iblk m c 1 t) (iblk m c 2 t) i
      = batch (m ((c : Thread nD τ).loc main_arg0)) (m ((c : Thread nD τ).loc main_arg1)) (sampleOf t) := by
  rw [out_eq, broadcast_cast, answer_eq, block_features, block_text, block_kernel]
  rfl

/-- The block a grid point writes back is its block of the array of losses. -/
theorem flushed_eq (t : Fin cfg0.N) :
    (dats m 0 c).flushed 3 t = ((cfg0.win 3).blk t).view.read (Elt Ideal) (rows m c) := by
  show (cfg0.win 3).cut (grid0.coords t) ((dats m 0 c).after 3 t) = _
  rw [after0_3]
  funext j
  obtain ⟨r, b, rfl⟩ : ∃ r b, j = (ix3 0 r b : S1x8x128.Idx) := ⟨j 1, j 2, by
    rw [show (0 : Fin 1) = j 0 from Subsingleton.elim _ _]; exact eq_ix3 j⟩
  refine (out_apply m c t (ix3 0 r b)).trans ?_
  exact (congrArg (rows m c) (emb3 t r b)).symm

/-- A place of a sample's row is in the block of the sample's grid point. -/
theorem mem_block (n : Fin 16) (r : Fin 8) (b : Fin 128) :
    (ix3 n r b : S16x8x128.Idx) ∈ ((cfg0.win 3).blk (pointOf n)).view.set := by
  have h := ((cfg0.win 3).blk (pointOf n)).view.emb_mem_set (ix3 0 r b : S1x8x128.Idx)
  rwa [emb3 (pointOf n) r b, sampleOf_pointOf] at h

/-- Every place of the array is in the block of the grid point of its row. -/
theorem covered (i : S16x8x128.Idx) :
    ∃ t : Fin cfg0.N, (cfg0.win 3).flush t = true ∧ i ∈ ((cfg0.win 3).blk t).view.set := by
  rw [eq_ix3 i]
  exact ⟨pointOf (i 0), flush0_3 _, mem_block (i 0) (i 1) (i 2)⟩

/-- After the last grid point the array holds every sample's loss. -/
theorem array_eq : (dats m 0 c).arrAt 3 cfg0.N = rows m c :=
  (dats m 0 c).arrAt_eq_of_cover 3 (rows m c) (fun t _ => flushed_eq m c t) covered

/-! ## The result -/

/-- The kernel's result: the array of the samples' losses. -/
def losses : Buf (Elt Ideal) ((c : Thread nD τ).loc main_v7) := fun j : S16.Idx =>
  batch (m ((c : Thread nD τ).loc main_arg0)) (m ((c : Thread nD τ).loc main_arg1)) (j 0)

/-- What the slice and the reshape after the region leave. -/
theorem tail_eq : Pipeline.afterTail₀ cfgs (dats m) 0 (V0 m) [hostOps1] c main_v7 = losses m c := by
  have h : Pipeline.withArrays (cfgs 0).spec c (V0 m c) (fun w => (dats m 0 c).arrAt w (cfgs 0).N)
      (Proc.devRef .tc main_v5) = rows m c :=
    (Pipeline.withArrays_arr spec0 launch0.win.arr_inj c (V0 m c) _ 3).trans (array_eq m c)
  unfold Pipeline.afterTail₀
  generalize Pipeline.withArrays (cfgs 0).spec c (V0 m c) (fun w => (dats m 0 c).arrAt w (cfgs 0).N) = W at h ⊢
  funext j
  obtain ⟨n, rfl⟩ : ∃ n, j = (ix1 n : S16.Idx) := ⟨j 0, eq_ix1 j⟩
  trans rows m c (ix3 n 0 0 : S16x8x128.Idx)
  · rw [← h]
    show StableHlo.after _ _ _ _ = _
    after_reads_at
  · rfl

/-- Every execution of the idealized kernel ends with its result at the samples' losses and its arguments unchanged. -/
theorem run : θ_run defs (onTc (τ := τ) (main (F := Ideal))) ⟨m, fun _ => 0, ρ⟩ fun r => ∀ c : Dev nD,
      r.2.mem ((c : Thread nD τ).loc main_v7) = losses m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h.1 c).2 main_v7 (Pipeline.mem_restRefs_of main_v7 (by decide) (by decide))).trans (tail_eq m c), h.2 c⟩)
    (θ_run_and (run_main m ρ) (unchanged m ρ))

end Cert.KernelIdeal.Text
-- ==== Proof.RefText.lean ====
/-
  What the reference computes for one text, as a function of the label: the arrays it forms on the way, and each of them
  at an index in the words of the specification. The seven texts of the program are seven instances of these definitions.
-/
module

public import proofs.«01_k».proof.Proof.Spec
public import proofs.«01_k».proof.Proof.Consts
public import proofs.«01_k».proof.Proof.Gen.ReferenceIdeal
public import Idealize.ShloMosaic.Lib.Pointwise

@[expose] public section

noncomputable section

namespace Cert.ReferenceIdeal.Text

open Idealize.ShloMosaic Cert.Loss Cert.ReferenceIdeal.Gen

/-- The array of a label plane's marks for the label `k`. -/
def marks (x : IVec S16x16384 32) (k : BitVec 32) : FVec Ideal S16x16384 .f32 :=
  uitofp .f32 (cmpi .eq x (broadcastInDim S16x16384 ![] bcast_S_S16x16384 (constantI S_ 32 k)))

/-- Per sample, the number of pixels with the label `k`. -/
def counts (x : IVec S16x16384 32) (k : BitVec 32) : FVec Ideal S16 .f32 :=
  Host.reduceAdd (marks x k) (constant S_ .f32 0x00000000#32) reducesTo_S16x16384_S16_d1 h_S_

/-- Per sample, whether text `k` is present. -/
def presence (tt tk : IVec S16x16384 32) (k : BitVec 32) : IVec S16 1 :=
  andi (cmpf .ogt (counts tt k) (broadcastInDim S16 ![] bcast_S_S16 (constant S_ .f32 0x00000000#32)))
    (cmpf .ogt (counts tk k) (broadcastInDim S16 ![] bcast_S_S16 (constant S_ .f32 0x00000000#32)))

/-- The feature vectors less the mean feature vector of text `k`. -/
def offsets (sv : FVec Ideal S16x4x16384 .f32) (tk : IVec S16x16384 32) (k : BitVec 32) : FVec Ideal S16x4x16384 .f32 :=
  subf sv (broadcastInDim S16x4x16384 ![0, 1, 2] bcast_S16x4x1_S16x4x16384_0_1_2
    (broadcastInDim S16x4x1 ![0, 1] bcast_S16x4_S16x4x1_0_1
      (Host.divf
        (Host.reduceAdd (mulf sv (broadcastInDim S16x4x16384 ![0, 1, 2] bcast_S16x1x16384_S16x4x16384_0_1_2
          (broadcastInDim S16x1x16384 ![0, 2] bcast_S16x16384_S16x1x16384_0_2 (marks tk k))))
          (constant S_ .f32 0x00000000#32) reducesTo_S16x4x16384_S16x4_d2 h_S_)
        (broadcastInDim S16x4 ![0, 1] bcast_S16x1_S16x4_0_1 (broadcastInDim S16x1 ![0] bcast_S16_S16x1_0
          (maximumf (counts tk k) (broadcastInDim S16 ![] bcast_S_S16 (constant S_ .f32 0x3F800000#32))))))))

/-- The squared lengths of those differences. -/
def squares (sv : FVec Ideal S16x4x16384 .f32) (tk : IVec S16x16384 32) (k : BitVec 32) : FVec Ideal S16x16384 .f32 :=
  Host.reduceAdd (mulf (offsets sv tk k) (offsets sv tk k)) (constant S_ .f32 0x00000000#32)
    reducesTo_S16x4x16384_S16x16384_d1 h_S_

/-- From the squared lengths, by how much the lengths are greater than one half. -/
def excesses (q : FVec Ideal S16x16384 .f32) : FVec Ideal S16x16384 .f32 :=
  maximumf
    (subf
      (select (cmpf .ogt q (broadcastInDim S16x16384 ![] bcast_S_S16x16384 (constant S_ .f32 0x00000000#32)))
        (Host.sqrt (select (cmpf .ogt q (broadcastInDim S16x16384 ![] bcast_S_S16x16384 (constant S_ .f32 0x00000000#32))) q
          (broadcastInDim S16x16384 ![1] bcast_S16384_S16x16384_1
            (broadcastInDim S16384 ![] bcast_S_S16384 (id (constant S_ .f32 0x3F800000#32))))))
        (broadcastInDim S16x16384 ![1] bcast_S16384_S16x16384_1
          (broadcastInDim S16384 ![] bcast_S_S16384 (id (constant S_ .f32 0x00000000#32)))))
      (broadcastInDim S16x16384 ![] bcast_S_S16x16384 (constant S_ .f32 0x3F000000#32)))
    (broadcastInDim S16x16384 ![] bcast_S_S16x16384 (constant S_ .f32 0x00000000#32))

/-- Per sample, the loss of text `k`. -/
def losses (sv : FVec Ideal S16x4x16384 .f32) (tt tk : IVec S16x16384 32) (k : BitVec 32) : FVec Ideal S16 .f32 :=
  select (presence tt tk k)
    (Host.divf
      (Host.reduceAdd
        (mulf (Host.log (addf (mulf (excesses (squares sv tk k)) (excesses (squares sv tk k)))
          (broadcastInDim S16x16384 ![] bcast_S_S16x16384 (constant S_ .f32 0x3F800000#32)))) (marks tt k))
        (constant S_ .f32 0x00000000#32) reducesTo_S16x16384_S16_d1 h_S_)
      (maximumf (counts tt k) (broadcastInDim S16 ![] bcast_S_S16 (constant S_ .f32 0x3F800000#32))))
    (broadcastInDim S16 ![] bcast_S_S16 (id (constant S_ .f32 0x00000000#32)))

/-- Seven arrays, one per text, laid one below the other. -/
def stack (f : Fin 7 → FVec Ideal S16 .f32) : FVec Ideal S7x16 .f32 :=
  concatenate S7x16 0 [⟨S1x16, broadcastInDim S1x16 ![1] bcast_S16_S1x16_1 (f 0)⟩,
    ⟨S1x16, broadcastInDim S1x16 ![1] bcast_S16_S1x16_1 (f 1)⟩, ⟨S1x16, broadcastInDim S1x16 ![1] bcast_S16_S1x16_1 (f 2)⟩,
    ⟨S1x16, broadcastInDim S1x16 ![1] bcast_S16_S1x16_1 (f 3)⟩, ⟨S1x16, broadcastInDim S1x16 ![1] bcast_S16_S1x16_1 (f 4)⟩,
    ⟨S1x16, broadcastInDim S1x16 ![1] bcast_S16_S1x16_1 (f 5)⟩, ⟨S1x16, broadcastInDim S1x16 ![1] bcast_S16_S1x16_1 (f 6)⟩]
    concatenates_S1x16_S1x16_S1x16_S1x16_S1x16_S1x16_S1x16_S7x16_d0

/-- The sum of seven such arrays down the stack. -/
def total (f : Fin 7 → FVec Ideal S16 .f32) : FVec Ideal S16 .f32 :=
  Host.reduceAdd (stack f) (constant S_ .f32 0x00000000#32) reducesTo_S7x16_S16_d0 h_S_

/-- The quotient the reference returns, from the seven losses and the seven presences. -/
def averages (f g : Fin 7 → FVec Ideal S16 .f32) : FVec Ideal S16 .f32 :=
  select (cmpf .ogt (total g) (broadcastInDim S16 ![] bcast_S_S16 (constant S_ .f32 0x00000000#32)))
    (Host.divf (total f) (maximumf (total g) (broadcastInDim S16 ![] bcast_S_S16 (constant S_ .f32 0x3F800000#32))))
    (broadcastInDim S16 ![] bcast_S_S16 (id (constant S_ .f32 0x00000000#32)))

/-- What the reference returns, from the arrays of features and of labels. -/
def answer (sv : FVec Ideal S16x4x16384 .f32) (tt tk : IVec S16x16384 32) : FVec Ideal S16 .f32 :=
  averages (fun i => losses sv tt tk (label i)) (fun i => uitofp .f32 (presence tt tk (label i)))

/-- Sample `n`'s plane of labels. -/
def labels (x : IVec S16x16384 32) (n : Fin 16) (p : Fin 16384) : BitVec 32 := x (ix2 n p)

/-- Sample `n`'s four feature planes. -/
def features (sv : FVec Ideal S16x4x16384 .f32) (n : Fin 16) (c : Fin 4) (p : Fin 16384) : EReal := sv (ix3 n c p)

/-- The marks of a label at a position of a sample. -/
theorem marks_apply (x : IVec S16x16384 32) (k : BitVec 32) (n : Fin 16) (p : Fin 16384) :
    marks x k (ix2 n p) = mark (labels x n) k p := by
  pointwise [marks]
  exact uitofp_ofBool _

/-- The number of pixels with a label is the tally of the sample. -/
theorem counts_apply (x : IVec S16x16384 32) (k : BitVec 32) (n : Fin 16) :
    counts x k (ix1 n) = tally (labels x n) k := by
  pointwise [counts]
  simp only [marks_apply, tally]

/-- The presence flag of a text is the truth value of its being present. -/
theorem presence_apply (tt tk : IVec S16x16384 32) (k : BitVec 32) (n : Fin 16) :
    presence tt tk k (ix1 n) = BitVec.ofBool (decide (present (labels tt n) (labels tk n) k)) := by
  pointwise [presence]
  simp only [counts_apply, andi_ofBool]
  rfl

/-- A feature less the mean of its plane over the kernel pixels of the text. -/
theorem offsets_apply (sv : FVec Ideal S16x4x16384 .f32) (tk : IVec S16x16384 32) (k : BitVec 32) (n : Fin 16) (c : Fin 4)
    (p : Fin 16384) : offsets sv tk k (ix3 n c p) = features sv n c p - centre (features sv n c) (labels tk n) k := by
  pointwise [offsets]
  simp only [counts_apply, marks_apply]
  rfl

/-- The sum of the squared differences is the squared distance. -/
theorem squares_apply (sv : FVec Ideal S16x4x16384 .f32) (tk : IVec S16x16384 32) (k : BitVec 32) (n : Fin 16)
    (p : Fin 16384) : squares sv tk k (ix2 n p) = sqDist (features sv n) (labels tk n) k p := by
  pointwise [squares]
  simp only [offsets_apply]
  rfl

/-- The array of excesses holds the excess of each squared length. -/
theorem excesses_apply (q : FVec Ideal S16x16384 .f32) (n : Fin 16) (p : Fin 16384) :
    excesses q (ix2 n p) = excess (q (ix2 n p)) := by
  pointwise [excesses, id_eq]
  rw [ofBits_half]
  rfl

/-- The reference's loss of text `k` for sample `n` is the specification's. -/
theorem losses_apply (sv : FVec Ideal S16x4x16384 .f32) (tt tk : IVec S16x16384 32) (k : BitVec 32) (n : Fin 16) :
    losses sv tt tk k (ix1 n) = textLoss (features sv n) (labels tt n) (labels tk n) k := by
  pointwise [losses, id_eq]
  simp only [presence_apply, excesses_apply, squares_apply, counts_apply, marks_apply]
  exact select_ofBool _ _ _

/-- The sum down the stack is the sum of the seven arrays. -/
theorem total_apply (f : Fin 7 → FVec Ideal S16 .f32) (n : Fin 16) : total f (ix1 n) = ∑ i, f i (ix1 n) := by
  pointwise [total, stack]
  rw [Fin.sum_univ_seven, Fin.sum_univ_seven]
  rfl

/-- The reference returns, for sample `n`, the specification's loss of sample `n`. -/
theorem answer_apply (sv : FVec Ideal S16x4x16384 .f32) (tt tk : IVec S16x16384 32) (n : Fin 16) :
    answer sv tt tk (ix1 n) = sample (features sv n) (labels tt n) (labels tk n) := by
  have hc (i : Fin 7) : (uitofp .f32 (presence tt tk (label i)) : FVec Ideal S16 .f32) (ix1 n)
      = textCount (labels tt n) (labels tk n) (label i) := by
    pointwise
    rw [presence_apply]
    exact uitofp_ofBool _
  pointwise [answer, averages, id_eq]
  simp only [total_apply, losses_apply, hc]
  rfl

end Cert.ReferenceIdeal.Text
-- ==== Proof.RefValue.lean ====
/-
  The reference's result: the term it computes from its arguments is the generic one, seven texts with labels one to
  seven, and so at sample `n` it is the specification's loss of that sample.
-/
module

public import proofs.«01_k».proof.Proof.RefText
public import proofs.«01_k».proof.Proof.Gen.ReferenceIdeal.Run

@[expose] public section

noncomputable section

namespace Cert.ReferenceIdeal.Text

open Idealize.ShloMosaic Idealize.SL.Sem Cert.Loss Cert.ReferenceIdeal.Value

variable (V0 : Valuation τ sig (Elt Ideal))

/-- The program's result is the generic answer at the arrays it cuts out of its arguments. -/
theorem answer_eq :
    select (cmpf .ogt (res_main_v367 V0) (broadcastInDim S16 ![] Gen.bcast_S_S16 (constant S_ .f32 0x00000000#32)))
      (Host.divf (Host.reduceAdd (res_main_v358 V0) (constant S_ .f32 0x00000000#32) Gen.reducesTo_S7x16_S16_d0 Gen.h_S_)
        (maximumf (res_main_v367 V0) (broadcastInDim S16 ![] Gen.bcast_S_S16 (constant S_ .f32 0x3F800000#32))))
      (broadcastInDim S16 ![] Gen.bcast_S_S16 (id (constant S_ .f32 0x00000000#32)))
      = answer (res_main_v1 V0) (res_main_v4 V0) (res_main_v7 V0) := rfl

/-- A position in a flattened plane is a row and a column. -/
def pixels : Fin 16384 ≃ Fin 128 × Fin 128 := (finProdFinEquiv (m := 128) (n := 128)).symm

/-- The reference's features of sample `n` are its planes, read at the row and the column of a position. -/
theorem features_eq (n : Fin 16) (c : Fin 4) :
    features (res_main_v1 V0) n c = planes (V0 (Proc.devRef .tc main_arg0)) n c ∘ pixels := by
  funext p
  unfold features
  pointwise [res_main_v1]
  rfl

/-- The reference's text labels of sample `n` are its first label plane, read so. -/
theorem labels_text (n : Fin 16) :
    labels (res_main_v4 V0) n = targetPlane (V0 (Proc.devRef .tc main_arg1)) 0 n ∘ pixels := by
  funext p
  unfold labels
  pointwise [res_main_v4]
  rfl

/-- The reference's kernel labels of sample `n` are its second label plane, read so. -/
theorem labels_kernel (n : Fin 16) :
    labels (res_main_v7 V0) n = targetPlane (V0 (Proc.devRef .tc main_arg1)) 1 n ∘ pixels := by
  funext p
  unfold labels
  pointwise [res_main_v7]
  rfl

/-- The reference's result at sample `n` is the loss of sample `n` of the batch it is given. -/
theorem result (n : Fin 16) :
    answer (res_main_v1 V0) (res_main_v4 V0) (res_main_v7 V0) (ix1 n)
      = batch (V0 (Proc.devRef .tc main_arg0)) (V0 (Proc.devRef .tc main_arg1)) n := by
  rw [answer_apply, labels_text, labels_kernel, show features (res_main_v1 V0) n = _ from funext (features_eq V0 n)]
  exact sample_comp pixels _ _ _

end Cert.ReferenceIdeal.Text
-- ==== Proof.lean ====
/-
  The certificate: the kernel and its idealization run and leave their arguments and every counter as they were, so does
  the reference, and the idealized kernel and the reference end with the same result, every sample's aggregation loss.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelArray
public import proofs.«01_k».proof.Proof.RefValue
public import Idealize.ShloMosaic.Lib.Quiescent

@[expose] public section

noncomputable section

namespace Cert.Proof

open Idealize.ShloMosaic Idealize.ShloMosaic.TcCoe Idealize.SL.Sem

/-- The reference runs, and leaves its arguments unchanged and every counter at zero: it uses no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel and the reference, from equal arguments, both end with every sample's loss. -/
theorem same_result : Cert.algebraic_KernelIdeal_ReferenceIdeal := by
  intro m ρ m' ρ' _ same
  refine ⟨fun c => Cert.KernelIdeal.Text.losses m c, Cert.KernelIdeal.Text.run m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Text.answer_eq _).trans ?_
  funext j
  obtain ⟨n, rfl⟩ : ∃ n : Fin 16, j = ix1 n := ⟨j 0, eq_ix1 j⟩
  refine (Cert.ReferenceIdeal.Text.result _ n).trans ?_
  exact congrArg₂ (fun x y => Cert.Loss.batch x y n) (same c).1 (same c).2

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    reference_frame, trivial, same_result⟩

end Cert.Proof

end
